-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_labelled [hPre_finite_and_labelled : Cert.Pre_finite_and_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_labelled [hPre_finite_and_labelled : Cert.Pre_finite_and_labelled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_and_labelled [hKernelIdeal : Cert.KernelIdeal.Facts] [hPre_finite_and_labelled : Cert.Pre_finite_and_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_labelled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_and_labelled [hReferenceIdeal : Cert.ReferenceIdeal.Facts] [hPre_finite_and_labelled : Cert.Pre_finite_and_labelled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_labelled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite_and_labelled [hKernelIdeal : Cert.KernelIdeal.Facts] [hReferenceIdeal : Cert.ReferenceIdeal.Facts] [hPre_finite_and_labelled : Cert.Pre_finite_and_labelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_labelled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v31)) (v3 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_v33) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_and_labelled : Cert.Pre_finite_and_labelled.Facts),
    quiescent_Kernel (hKernel := hKernel)
    ∧ quiescent_KernelIdeal (hKernelIdeal := hKernelIdeal)
    ∧ quiescent_KernelIdeal_pre_finite_and_labelled (hKernelIdeal := hKernelIdeal) (hPre_finite_and_labelled := hPre_finite_and_labelled)
    ∧ quiescent_ReferenceIdeal (hReferenceIdeal := hReferenceIdeal)
    ∧ quiescent_ReferenceIdeal_pre_finite_and_labelled (hReferenceIdeal := hReferenceIdeal) (hPre_finite_and_labelled := hPre_finite_and_labelled)
    ∧ preserves_Kernel_KernelIdeal
    ∧ algebraic_KernelIdeal_ReferenceIdeal_pre_finite_and_labelled (hKernelIdeal := hKernelIdeal) (hReferenceIdeal := hReferenceIdeal) (hPre_finite_and_labelled := hPre_finite_and_labelled)
-- ==== Pre_finite_and_labelled.lean ====
abbrev S262144x3 : Shape := ⟨2, ![262144, 3]⟩
abbrev S262144 : Shape := ⟨1, ![262144]⟩
abbrev S128x7 : Shape := ⟨2, ![128, 7]⟩
abbrev S4 : Shape := ⟨1, ![4]⟩
abbrev S262144x6 : Shape := ⟨2, ![262144, 6]⟩
abbrev S6x256 : Shape := ⟨2, ![6, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S256x20 : Shape := ⟨2, ![256, 20]⟩
abbrev S20 : Shape := ⟨1, ![20]⟩
abbrev S_ : Shape := ⟨0, ![]⟩

class Facts : Prop where
  bcast_S_S262144x6 : S_.BroadcastsInDim S262144x6 (![] : Fin 0 → Fin S262144x6.rank)
  bcast_S_S6x256 : S_.BroadcastsInDim S6x256 (![] : Fin 0 → Fin S6x256.rank)
  bcast_S_S256 : S_.BroadcastsInDim S256 (![] : Fin 0 → Fin S256.rank)
  bcast_S_S256x256 : S_.BroadcastsInDim S256x256 (![] : Fin 0 → Fin S256x256.rank)
  bcast_S_S256x20 : S_.BroadcastsInDim S256x20 (![] : Fin 0 → Fin S256x20.rank)
  bcast_S_S20 : S_.BroadcastsInDim S20 (![] : Fin 0 → Fin S20.rank)
  bcast_S_S262144 : S_.BroadcastsInDim S262144 (![] : Fin 0 → Fin S262144.rank)

variable [Facts]

def fn_part1 {F : FTy → Type} [FloatOps F] (main_arg1 : IVec S262144 32) (main_arg16 : FVec F S20 .f32) (main_v2 : IVec S262144x6 1) (main_v5 : IVec S6x256 1) (main_v8 : IVec S256 1) (main_v11 : IVec S256x256 1) (main_v14 : IVec S256 1) (main_v17 : IVec S256x20 1) : IVec S262144x6 1 × IVec S6x256 1 × IVec S256 1 × IVec S256x256 1 × IVec S256 1 × IVec S256x20 1 × IVec S20 1 × IVec S262144 1 :=
  let main_v18 : FVec F S20 .f32 := Host.absf main_arg16
  let main_cst_5 : FVec F S_ .f32 := constant S_ .f32 0x7F800000#32
  let main_v19 : FVec F S20 .f32 := broadcastInDim S20 ![] bcast_S_S20 main_cst_5
  let main_v20 : IVec S20 1 := cmpf .olt main_v18 main_v19
  let main_c : IVec S_ 32 := constantI S_ 32 4294967295#32
  let main_v21 : IVec S262144 32 := broadcastInDim S262144 ![] bcast_S_S262144 main_c
  let main_v22 : IVec S262144 1 := cmpi .sge main_arg1 main_v21
  let main_c_6 : IVec S_ 32 := constantI S_ 32 20#32
  let main_v23 : IVec S262144 32 := broadcastInDim S262144 ![] bcast_S_S262144 main_c_6
  let main_v24 : IVec S262144 1 := cmpi .slt main_arg1 main_v23
  let main_v25 : IVec S262144 1 := andi main_v22 main_v24
  (main_v2, main_v5, main_v8, main_v11, main_v14, main_v17, main_v20, main_v25)

def fn {F : FTy → Type} [FloatOps F] (main_arg0 : FVec F S262144x3 .f32) (main_arg1 : IVec S262144 32) (main_arg2 : IVec S262144 32) (main_arg3 : FVec F S262144x3 .f32) (main_arg4 : FVec F S128x7 .f32) (main_arg5 : IVec S4 32) (main_arg6 : FVec F S262144x6 .f32) (main_arg7 : FVec F S6x256 .f32) (main_arg8 : FVec F S256 .f32) (main_arg9 : FVec F S256x256 .f32) (main_arg10 : FVec F S256 .f32) (main_arg11 : FVec F S256 .f32) (main_arg12 : FVec F S256 .f32) (main_arg13 : FVec F S256x3 .f32) (main_arg14 : FVec F S3 .f32) (main_arg15 : FVec F S256x20 .f32) (main_arg16 : FVec F S20 .f32) : IVec S262144x6 1 × IVec S6x256 1 × IVec S256 1 × IVec S256x256 1 × IVec S256 1 × IVec S256x20 1 × IVec S20 1 × IVec S262144 1 :=
  let main_v0 : FVec F S262144x6 .f32 := Host.absf main_arg6
  let main_cst : FVec F S_ .f32 := constant S_ .f32 0x7F800000#32
  let main_v1 : FVec F S262144x6 .f32 := broadcastInDim S262144x6 ![] bcast_S_S262144x6 main_cst
  let main_v2 : IVec S262144x6 1 := cmpf .olt main_v0 main_v1
  let main_v3 : FVec F S6x256 .f32 := Host.absf main_arg7
  let main_cst_0 : FVec F S_ .f32 := constant S_ .f32 0x7F800000#32
  let main_v4 : FVec F S6x256 .f32 := broadcastInDim S6x256 ![] bcast_S_S6x256 main_cst_0
  let main_v5 : IVec S6x256 1 := cmpf .olt main_v3 main_v4
  let main_v6 : FVec F S256 .f32 := Host.absf main_arg8
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S256x256 .f32 := Host.absf main_arg9
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_v12 : FVec F S256 .f32 := Host.absf main_arg11
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S256x20 .f32 := Host.absf main_arg15
  let main_cst_4 : FVec F S_ .f32 := constant S_ .f32 0x7F800000#32
  let main_v16 : FVec F S256x20 .f32 := broadcastInDim S256x20 ![] bcast_S_S256x20 main_cst_4
  let main_v17 : IVec S256x20 1 := cmpf .olt main_v15 main_v16
  fn_part1 (F := F) main_arg1 main_arg16 main_v2 main_v5 main_v8 main_v11 main_v14 main_v17
-- ==== Kernel.lean ====
abbrev S262144x3 : Shape := ⟨2, ![262144, 3]⟩
abbrev S262144 : Shape := ⟨1, ![262144]⟩
abbrev S128x7 : Shape := ⟨2, ![128, 7]⟩
abbrev S4 : Shape := ⟨1, ![4]⟩
abbrev S262144x6 : Shape := ⟨2, ![262144, 6]⟩
abbrev S6x256 : Shape := ⟨2, ![6, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S256x20 : Shape := ⟨2, ![256, 20]⟩
abbrev S20 : Shape := ⟨1, ![20]⟩
abbrev S8x128 : Shape := ⟨2, ![8, 128]⟩
abbrev S32768x6 : Shape := ⟨2, ![32768, 6]⟩
abbrev S32768x8 : Shape := ⟨2, ![32768, 8]⟩
abbrev S32768x2 : Shape := ⟨2, ![32768, 2]⟩
abbrev S8x8 : Shape := ⟨2, ![8, 8]⟩
abbrev S8x120 : Shape := ⟨2, ![8, 120]⟩
abbrev S_ : Shape := ⟨0, ![]⟩
abbrev S8x256 : Shape := ⟨2, ![8, 256]⟩
abbrev S256x8 : Shape := ⟨2, ![256, 8]⟩
abbrev S256x1 : Shape := ⟨2, ![256, 1]⟩
abbrev S8x3 : Shape := ⟨2, ![8, 3]⟩
abbrev S8 : Shape := ⟨1, ![8]⟩
abbrev S8x1 : Shape := ⟨2, ![8, 1]⟩
abbrev S256x32 : Shape := ⟨2, ![256, 32]⟩
abbrev S32x256 : Shape := ⟨2, ![32, 256]⟩
abbrev S32 : Shape := ⟨1, ![32]⟩
abbrev S32x1 : Shape := ⟨2, ![32, 1]⟩
abbrev S4096x6 : Shape := ⟨2, ![4096, 6]⟩
abbrev S4096 : Shape := ⟨1, ![4096]⟩
abbrev S8x4096 : Shape := ⟨2, ![8, 4096]⟩
abbrev S256x6 : Shape := ⟨2, ![256, 6]⟩
abbrev S256x4096 : Shape := ⟨2, ![256, 4096]⟩
abbrev S3x4096 : Shape := ⟨2, ![3, 4096]⟩
abbrev S4096x3 : Shape := ⟨2, ![4096, 3]⟩
abbrev S1x4096 : Shape := ⟨2, ![1, 4096]⟩
abbrev S32x4096 : Shape := ⟨2, ![32, 4096]⟩
abbrev S1 : Shape := ⟨1, ![1]⟩
abbrev S1x1 : Shape := ⟨2, ![1, 1]⟩

abbrev nBuf : Space → Nat
  | .hbm => 64
  | .vmem => 23
  | .smem => 1
  | _ => 0

abbrev bufTy : (tb : Table) → Fin (tcTables nBuf tb) → BufTy
  | .hbm, ⟨0, _⟩ => ⟨S262144x3, .f32⟩
  | .hbm, ⟨1, _⟩ => ⟨S262144, .i32⟩
  | .hbm, ⟨2, _⟩ => ⟨S262144, .i32⟩
  | .hbm, ⟨3, _⟩ => ⟨S262144x3, .f32⟩
  | .hbm, ⟨4, _⟩ => ⟨S128x7, .f32⟩
  | .hbm, ⟨5, _⟩ => ⟨S4, .i32⟩
  | .hbm, ⟨6, _⟩ => ⟨S262144x6, .f32⟩
  | .hbm, ⟨7, _⟩ => ⟨S6x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x3, .f32⟩
  | .hbm, ⟨14, _⟩ => ⟨S3, .f32⟩
  | .hbm, ⟨15, _⟩ => ⟨S256x20, .f32⟩
  | .hbm, ⟨16, _⟩ => ⟨S20, .f32⟩
  | .hbm, ⟨17, _⟩ => ⟨S8x128, .f32⟩
  | .hbm, ⟨18, _⟩ => ⟨S262144x6, .f32⟩
  | .hbm, ⟨19, _⟩ => ⟨S_, .i32⟩
  | .hbm, ⟨20, _⟩ => ⟨S_, .f32⟩
  | .hbm, ⟨21, _⟩ => ⟨S8x256, .f32⟩
  | .hbm, ⟨22, _⟩ => ⟨S256x8, .f32⟩
  | .hbm, ⟨23, _⟩ => ⟨S256x1, .f32⟩
  | .hbm, ⟨24, _⟩ => ⟨S256x256, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x3, .f32⟩
  | .hbm, ⟨29, _⟩ => ⟨S_, .i32⟩
  | .hbm, ⟨30, _⟩ => ⟨S_, .f32⟩
  | .hbm, ⟨31, _⟩ => ⟨S256x8, .f32⟩
  | .hbm, ⟨32, _⟩ => ⟨S8x3, .i32⟩
  | .hbm, ⟨33, _⟩ => ⟨S8x3, .i32⟩
  | .hbm, ⟨34, _⟩ => ⟨S_, .i32⟩
  | .hbm, ⟨35, _⟩ => ⟨S8x3, .i32⟩
  | .hbm, ⟨36, _⟩ => ⟨S8x3, .i32⟩
  | .hbm, ⟨37, _⟩ => ⟨S8x3, .i1⟩
  | .hbm, ⟨38, _⟩ => ⟨S8x3, .f32⟩
  | .hbm, ⟨39, _⟩ => ⟨S_, .i32⟩
  | .hbm, ⟨40, _⟩ => ⟨S_, .f32⟩
  | .hbm, ⟨41, _⟩ => ⟨S256x8, .f32⟩
  | .hbm, ⟨42, _⟩ => ⟨S8x256, .f32⟩
  | .hbm, ⟨43, _⟩ => ⟨S_, .i32⟩
  | .hbm, ⟨44, _⟩ => ⟨S_, .f32⟩
  | .hbm, ⟨45, _⟩ => ⟨S8, .f32⟩
  | .hbm, ⟨46, _⟩ => ⟨S8x1, .f32⟩
  | .hbm, ⟨47, _⟩ => ⟨S_, .i32⟩
  | .hbm, ⟨48, _⟩ => ⟨S_, .f32⟩
  | .hbm, ⟨49, _⟩ => ⟨S256x32, .f32⟩
  | .hbm, ⟨50, _⟩ => ⟨S32x256, .f32⟩
  | .hbm, ⟨51, _⟩ => ⟨S_, .i32⟩
  | .hbm, ⟨52, _⟩ => ⟨S_, .f32⟩
  | .hbm, ⟨53, _⟩ => ⟨S32, .f32⟩
  | .hbm, ⟨54, _⟩ => ⟨S32x1, .f32⟩
  | .hbm, ⟨55, _⟩ => ⟨S4, .f32⟩
  | .hbm, ⟨56, _⟩ => ⟨S1, .f32⟩
  | .hbm, ⟨57, _⟩ => ⟨S_, .f32⟩
  | .hbm, ⟨58, _⟩ => ⟨S1, .f32⟩
  | .hbm, ⟨59, _⟩ => ⟨S_, .f32⟩
  | .hbm, ⟨60, _⟩ => ⟨S1, .f32⟩
  | .hbm, ⟨61, _⟩ => ⟨S_, .f32⟩
  | .hbm, ⟨62, _⟩ => ⟨S1, .f32⟩
  | .hbm, ⟨63, _⟩ => ⟨S_, .f32⟩
  | .local _ .vmem, ⟨0, _⟩ => ⟨S32768x6, .f32⟩
  | .local _ .vmem, ⟨1, _⟩ => ⟨S32768x6, .f32⟩
  | .local _ .vmem, ⟨2, _⟩ => ⟨S8x128, .f32⟩
  | .local _ .vmem, ⟨3, _⟩ => ⟨S4096x6, .f32⟩
  | .local _ .vmem, ⟨4, _⟩ => ⟨S4096x6, .f32⟩
  | .local _ .vmem, ⟨5, _⟩ => ⟨S4096x6, .f32⟩
  | .local _ .vmem, ⟨6, _⟩ => ⟨S4096x6, .f32⟩
  | .local _ .vmem, ⟨7, _⟩ => ⟨S4096, .i32⟩
  | .local _ .vmem, ⟨8, _⟩ => ⟨S4096, .i32⟩
  | .local _ .vmem, ⟨9, _⟩ => ⟨S4096, .i32⟩
  | .local _ .vmem, ⟨10, _⟩ => ⟨S4096, .i32⟩
  | .local _ .vmem, ⟨11, _⟩ => ⟨S8x128, .f32⟩
  | .local _ .vmem, ⟨12, _⟩ => ⟨S256x8, .f32⟩
  | .local _ .vmem, ⟨13, _⟩ => ⟨S256x1, .f32⟩
  | .local _ .vmem, ⟨14, _⟩ => ⟨S256x256, .f32⟩
  | .local _ .vmem, ⟨15, _⟩ => ⟨S256x8, .f32⟩
  | .local _ .vmem, ⟨16, _⟩ => ⟨S8x3, .f32⟩
  | .local _ .vmem, ⟨17, _⟩ => ⟨S8x256, .f32⟩
  | .local _ .vmem, ⟨18, _⟩ => ⟨S8x1, .f32⟩
  | .local _ .vmem, ⟨19, _⟩ => ⟨S32x256, .f32⟩
  | .local _ .vmem, ⟨20, _⟩ => ⟨S32x1, .f32⟩
  | .local _ .vmem, ⟨21, _⟩ => ⟨S8x4096, .f32⟩
  | .local _ .vmem, ⟨22, _⟩ => ⟨S256x8, .f32⟩
  | .local _ .smem, ⟨0, _⟩ => ⟨S4, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_call0_v0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_call1_v0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_2 : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_call3_v0 : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_call4_v0 : Ref sig .tc := ⟨.hbm, 48, rfl⟩
abbrev main_v21 : Ref sig .tc := ⟨.hbm, 49, rfl⟩
abbrev main_v22 : Ref sig .tc := ⟨.hbm, 50, rfl⟩
abbrev main_c_5 : Ref sig .tc := ⟨.hbm, 51, rfl⟩
abbrev main_call5_v0 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_scratch0 : Ref sig .tc := ⟨.vmem, 21, rfl⟩
abbrev cc1_scratch1 : Ref sig .tc := ⟨.vmem, 22, rfl⟩
abbrev cc1_stg14_0 : Ref sig .tc := ⟨.smem, 0, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32768x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v136 : BitVec 1 := Scalar.cmpi .eq arg0 c63_i32
  let v137 : BitVec 32 := Scalar.extui v136
  let c0_i32_62 : BitVec 32 := 0#32
  let v138 : BitVec 1 := Scalar.cmpi .ne v137 c0_i32_62
  v138

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S4096x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x6 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x3 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S8x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S8x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S32x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S32x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .smem S4 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]
-- ==== ReferenceIdeal.lean ====
abbrev S262144x3 : Shape := ⟨2, ![262144, 3]⟩
abbrev S262144 : Shape := ⟨1, ![262144]⟩
abbrev S128x7 : Shape := ⟨2, ![128, 7]⟩
abbrev S4 : Shape := ⟨1, ![4]⟩
abbrev S262144x6 : Shape := ⟨2, ![262144, 6]⟩
abbrev S6x256 : Shape := ⟨2, ![6, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S256x20 : Shape := ⟨2, ![256, 20]⟩
abbrev S20 : Shape := ⟨1, ![20]⟩
abbrev S262144x256 : Shape := ⟨2, ![262144, 256]⟩
abbrev S1x256 : Shape := ⟨2, ![1, 256]⟩
abbrev S_ : Shape := ⟨0, ![]⟩
abbrev S1x3 : Shape := ⟨2, ![1, 3]⟩
abbrev S262144x20 : Shape := ⟨2, ![262144, 20]⟩
abbrev S1x20 : Shape := ⟨2, ![1, 20]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 177
  | .vmem => 0
  | .smem => 0
  | _ => 0

abbrev hbmTy0_0 (i : Nat) : BufTy := match i % 128 with
  | 0 => ⟨S262144x3, .f32⟩
  | 1 => ⟨S262144, .i32⟩
  | 2 => ⟨S262144, .i32⟩
  | 3 => ⟨S262144x3, .f32⟩
  | 4 => ⟨S128x7, .f32⟩
  | 5 => ⟨S4, .i32⟩
  | 6 => ⟨S262144x6, .f32⟩
  | 7 => ⟨S6x256, .f32⟩
  | 8 => ⟨S256, .f32⟩
  | 9 => ⟨S256x256, .f32⟩
  | 10 => ⟨S256, .f32⟩
  | 11 => ⟨S256, .f32⟩
  | 12 => ⟨S256, .f32⟩
  | 13 => ⟨S256x3, .f32⟩
  | 14 => ⟨S3, .f32⟩
  | 15 => ⟨S256x20, .f32⟩
  | 16 => ⟨S20, .f32⟩
  | 17 => ⟨S262144x256, .f32⟩
  | 18 => ⟨S1x256, .f32⟩
  | 19 => ⟨S262144x256, .f32⟩
  | 20 => ⟨S262144x256, .f32⟩
  | 21 => ⟨S262144x256, .f32⟩
  | 22 => ⟨S1x256, .f32⟩
  | 23 => ⟨S262144x256, .f32⟩
  | 24 => ⟨S262144x256, .f32⟩
  | 25 => ⟨S_, .f32⟩
  | 26 => ⟨S256, .f32⟩
  | 27 => ⟨S_, .f32⟩
  | 28 => ⟨S256, .f32⟩
  | 29 => ⟨S256, .f32⟩
  | 30 => ⟨S_, .i32⟩
  | 31 => ⟨S_, .f32⟩
  | 32 => ⟨S256, .f32⟩
  | 33 => ⟨S1x256, .f32⟩
  | 34 => ⟨S_, .f32⟩
  | 35 => ⟨S1x256, .f32⟩
  | 36 => ⟨S1x256, .f32⟩
  | 37 => ⟨S262144x256, .f32⟩
  | 38 => ⟨S262144x256, .f32⟩
  | 39 => ⟨S262144x256, .f32⟩
  | 40 => ⟨S_, .f32⟩
  | 41 => ⟨S_, .f32⟩
  | 42 => ⟨S_, .f32⟩
  | 43 => ⟨S_, .f32⟩
  | 44 => ⟨S256, .f32⟩
  | 45 => ⟨S256, .f32⟩
  | 46 => ⟨S256, .f32⟩
  | 47 => ⟨S_, .f32⟩
  | 48 => ⟨S_, .i1⟩
  | 49 => ⟨S_, .f32⟩
  | 50 => ⟨S_, .f32⟩
  | 51 => ⟨S256, .f32⟩
  | 52 => ⟨S256, .f32⟩
  | 53 => ⟨S1x256, .f32⟩
  | 54 => ⟨S262144x256, .f32⟩
  | 55 => ⟨S262144x256, .f32⟩
  | 56 => ⟨S_, .f32⟩
  | 57 => ⟨S256, .f32⟩
  | 58 => ⟨S256, .f32⟩
  | 59 => ⟨S256, .f32⟩
  | 60 => ⟨S1x256, .f32⟩
  | 61 => ⟨S262144x256, .f32⟩
  | 62 => ⟨S262144x256, .f32⟩
  | 63 => ⟨S1x256, .f32⟩
  | 64 => ⟨S262144x256, .f32⟩
  | 65 => ⟨S262144x256, .f32⟩
  | 66 => ⟨S1x256, .f32⟩
  | 67 => ⟨S262144x256, .f32⟩
  | 68 => ⟨S262144x256, .f32⟩
  | 69 => ⟨S_, .f32⟩
  | 70 => ⟨S262144x256, .f32⟩
  | 71 => ⟨S262144x256, .f32⟩
  | 72 => ⟨S262144x3, .f32⟩
  | 73 => ⟨S1x3, .f32⟩
  | 74 => ⟨S262144x3, .f32⟩
  | 75 => ⟨S262144x3, .f32⟩
  | 76 => ⟨S262144x20, .f32⟩
  | 77 => ⟨S1x20, .f32⟩
  | 78 => ⟨S262144x20, .f32⟩
  | 79 => ⟨S262144x20, .f32⟩
  | 80 => ⟨S_, .i32⟩
  | 81 => ⟨S262144, .i32⟩
  | 82 => ⟨S262144, .i1⟩
  | 83 => ⟨S_, .i32⟩
  | 84 => ⟨S_, .i32⟩
  | 85 => ⟨S262144, .i32⟩
  | 86 => ⟨S262144, .i32⟩
  | 87 => ⟨S262144x20, .f32⟩
  | 88 => ⟨S_, .f32⟩
  | 89 => ⟨S262144, .f32⟩
  | 90 => ⟨S262144, .f32⟩
  | 91 => ⟨S262144x1, .i32⟩
  | 92 => ⟨S_, .i32⟩
  | 93 => ⟨S262144x1, .i32⟩
  | 94 => ⟨S262144x1, .i1⟩
  | 95 => ⟨S_, .i32⟩
  | 96 => ⟨S262144x1, .i32⟩
  | 97 => ⟨S262144x1, .i32⟩
  | 98 => ⟨S262144x1, .i32⟩
  | 99 => ⟨S262144x1x1, .i32⟩
  | 100 => ⟨S1, .i32⟩
  | 101 => ⟨S_, .i32⟩
  | 102 => ⟨S262144x1x1, .i32⟩
  | 103 => ⟨S262144x1x1, .i1⟩
  | 104 => ⟨S1x1x1, .i32⟩
  | 105 => ⟨S262144x1x1, .i32⟩
  | 106 => ⟨S262144x1x1, .i1⟩
  | 107 => ⟨S262144x1x1, .i1⟩
  | 108 => ⟨S_, .i1⟩
  | 109 => ⟨S262144x1, .i1⟩
  | 110 => ⟨S262144x1, .f32⟩
  | 111 => ⟨S_, .f32⟩
  | 112 => ⟨S262144x1, .f32⟩
  | 113 => ⟨S262144x1, .f32⟩
  | 114 => ⟨S262144, .f32⟩
  | 115 => ⟨S262144, .f32⟩
  | 116 => ⟨S262144, .f32⟩
  | 117 => ⟨S262144, .f32⟩
  | 118 => ⟨S_, .f32⟩
  | 119 => ⟨S_, .f32⟩
  | 120 => ⟨S262144, .f32⟩
  | 121 => ⟨S_, .f32⟩
  | 122 => ⟨S_, .f32⟩
  | 123 => ⟨S_, .f32⟩
  | 124 => ⟨S_, .f32⟩
  | 125 => ⟨S_, .f32⟩
  | 126 => ⟨S_, .i32⟩
  | 127 => ⟨S262144, .i32⟩
  | _ => ⟨S262144x3, .f32⟩

abbrev hbmTy0_1 (i : Nat) : BufTy := match i % 128 with
  | 0 => ⟨S262144, .i1⟩
  | 1 => ⟨S262144, .f32⟩
  | 2 => ⟨S262144x3, .f32⟩
  | 3 => ⟨S262144x3, .f32⟩
  | 4 => ⟨S262144x3, .f32⟩
  | 5 => ⟨S_, .f32⟩
  | 6 => ⟨S262144, .f32⟩
  | 7 => ⟨S262144, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S262144x3, .f32⟩
  | 16 => ⟨S_, .f32⟩
  | 17 => ⟨S262144, .f32⟩
  | 18 => ⟨S262144x1, .f32⟩
  | 19 => ⟨S262144x1, .f32⟩
  | 20 => ⟨S_, .f32⟩
  | 21 => ⟨S262144x1, .f32⟩
  | 22 => ⟨S262144x1, .f32⟩
  | 23 => ⟨S262144x3, .f32⟩
  | 24 => ⟨S262144x3, .f32⟩
  | 25 => ⟨S262144x3, .f32⟩
  | 26 => ⟨S_, .f32⟩
  | 27 => ⟨S262144, .f32⟩
  | 28 => ⟨S262144x1, .f32⟩
  | 29 => ⟨S262144x1, .f32⟩
  | 30 => ⟨S_, .f32⟩
  | 31 => ⟨S262144x1, .f32⟩
  | 32 => ⟨S262144x1, .f32⟩
  | 33 => ⟨S262144x3, .f32⟩
  | 34 => ⟨S262144x3, .f32⟩
  | 35 => ⟨S262144x3, .f32⟩
  | 36 => ⟨S_, .f32⟩
  | 37 => ⟨S262144, .f32⟩
  | 38 => ⟨S262144, .f32⟩
  | 39 => ⟨S262144, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | _ => ⟨S262144x3, .f32⟩

abbrev hbmTy (i : Nat) : BufTy := match i / 128 with
  | 0 => hbmTy0_0 i
  | 1 => hbmTy0_1 i
  | _ => ⟨S262144x3, .f32⟩

abbrev bufTy : (tb : Table) → Fin (tcTables nBuf tb) → BufTy
  | .hbm, ⟨i, _⟩ => hbmTy i
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_cst_3 : Ref sig .tc := ⟨.hbm, 47, rfl⟩
abbrev main_call0_v12 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst_1 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_call1_cst : Ref sig .tc := ⟨.hbm, 69, rfl⟩
abbrev main_call1_v0 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_c_2 : Ref sig .tc := ⟨.hbm, 80, rfl⟩
abbrev main_v36 : Ref sig .tc := ⟨.hbm, 81, rfl⟩
abbrev main_v37 : Ref sig .tc := ⟨.hbm, 82, rfl⟩
abbrev main_c_3 : Ref sig .tc := ⟨.hbm, 83, rfl⟩
abbrev main_call2_v0 : Ref sig .tc := ⟨.hbm, 84, rfl⟩
abbrev main_call2_v1 : Ref sig .tc := ⟨.hbm, 85, rfl⟩
abbrev main_v38 : Ref sig .tc := ⟨.hbm, 86, rfl⟩
abbrev main_v39 : Ref sig .tc := ⟨.hbm, 87, rfl⟩
abbrev main_cst_4 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_cst : Ref sig .tc := ⟨.hbm, 111, rfl⟩
abbrev main_call3_v14 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_cst_5 : Ref sig .tc := ⟨.hbm, 118, rfl⟩
abbrev main_v48 : Ref sig .tc := ⟨.hbm, 119, rfl⟩
abbrev main_v49 : Ref sig .tc := ⟨.hbm, 120, rfl⟩
abbrev main_cst_6 : Ref sig .tc := ⟨.hbm, 121, rfl⟩
abbrev main_v50 : Ref sig .tc := ⟨.hbm, 122, rfl⟩
abbrev main_cst_7 : Ref sig .tc := ⟨.hbm, 123, rfl⟩
abbrev main_v51 : Ref sig .tc := ⟨.hbm, 124, rfl⟩
abbrev main_v52 : Ref sig .tc := ⟨.hbm, 125, rfl⟩
abbrev main_c_8 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_9 : Ref sig .tc := ⟨.hbm, 133, rfl⟩
abbrev main_v59 : Ref sig .tc := ⟨.hbm, 134, rfl⟩
abbrev main_v60 : Ref sig .tc := ⟨.hbm, 135, rfl⟩
abbrev main_cst_10 : Ref sig .tc := ⟨.hbm, 136, rfl⟩
abbrev main_v61 : Ref sig .tc := ⟨.hbm, 137, rfl⟩
abbrev main_cst_11 : Ref sig .tc := ⟨.hbm, 138, rfl⟩
abbrev main_v62 : Ref sig .tc := ⟨.hbm, 139, rfl⟩
abbrev main_cst_12 : Ref sig .tc := ⟨.hbm, 140, rfl⟩
abbrev main_v63 : Ref sig .tc := ⟨.hbm, 141, rfl⟩
abbrev main_v64 : Ref sig .tc := ⟨.hbm, 142, rfl⟩
abbrev main_call4_v0 : Ref sig .tc := ⟨.hbm, 143, rfl⟩
abbrev main_call4_cst : Ref sig .tc := ⟨.hbm, 144, rfl⟩
abbrev main_call4_v1 : Ref sig .tc := ⟨.hbm, 145, rfl⟩
abbrev main_call4_v2 : Ref sig .tc := ⟨.hbm, 146, rfl⟩
abbrev main_v65 : Ref sig .tc := ⟨.hbm, 147, rfl⟩
abbrev main_cst_13 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_call5_v0 : Ref sig .tc := ⟨.hbm, 153, rfl⟩
abbrev main_call5_cst : Ref sig .tc := ⟨.hbm, 154, rfl⟩
abbrev main_call5_v1 : Ref sig .tc := ⟨.hbm, 155, rfl⟩
abbrev main_call5_v2 : Ref sig .tc := ⟨.hbm, 156, rfl⟩
abbrev main_v70 : Ref sig .tc := ⟨.hbm, 157, rfl⟩
abbrev main_cst_14 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_cst_15 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_cst_16 : Ref sig .tc := ⟨.hbm, 168, rfl⟩
abbrev main_v79 : Ref sig .tc := ⟨.hbm, 169, rfl⟩
abbrev main_cst_17 : Ref sig .tc := ⟨.hbm, 170, rfl⟩
abbrev main_v80 : Ref sig .tc := ⟨.hbm, 171, rfl⟩
abbrev main_cst_18 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩

abbrev nD : Nat := 1
abbrev τ : Topo := Topo.v7x

variable {F : FTy → Type} [FloatOps F]
-- ==== Proof.LossSetup.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loss body's first branch: taken at the first point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 64 = 0 :=
  (fun t => by
    have ht : t.val < 64 := Nat.lt_of_lt_of_eq t.isLt N_1
    have e0 : (grid1.coords t 0).val = t.val / 1 % 64 := Pipeline.Grid.coords_val t 0 (by decide) rfl
    simp only [cond1_0, e0]
    word_cmp
   : ∀ t : Fin grid1.N, cond1_0 (grid1.coords t) ↔ t.val % 64 = 0)

/-- The loss body's second branch: taken at the last point only. -/
abbrev cond1_1 (i : grid1.Coords) : Prop := k1_cond2 i = 1#1
theorem hcond1_1 : ∀ t : Fin cfg1.N, cond1_1 (grid1.coords t) ↔ t.val % 64 = 63 :=
  (fun t => by
    have ht : t.val < 64 := Nat.lt_of_lt_of_eq t.isLt N_1
    have e0 : (grid1.coords t 0).val = t.val / 1 % 64 := Pipeline.Grid.coords_val t 0 (by decide) rfl
    simp only [cond1_1, k1_cond2, e0]
    word_cmp
   : ∀ t : Fin grid1.N, cond1_1 (grid1.coords t) ↔ t.val % 64 = 63)
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl
theorem liveAt1_9 : ∀ t : Fin cfg1.N, cfg1.idle 9 (grid1.coords t) = false := fun _ => rfl
theorem liveAt1_10 : ∀ t : Fin cfg1.N, cfg1.idle 10 (grid1.coords t) = false := fun _ => rfl
theorem liveAt1_11 : ∀ t : Fin cfg1.N, cfg1.idle 11 (grid1.coords t) = false := fun _ => rfl
theorem liveAt1_12 : ∀ t : Fin cfg1.N, cfg1.idle 12 (grid1.coords t) = false := fun _ => rfl
theorem liveAt1_13 : ∀ t : Fin cfg1.N, cfg1.idle 13 (grid1.coords t) = false := fun _ => rfl
/-- The scalar output is stored at the last point only. -/
theorem idleAt1_A : ∀ t : Fin cfg1.N, ¬cond1_1 (grid1.coords t) → cfg1.idle 14 (grid1.coords t) = true := by decide +kernel
theorem noFlush1_A : ∀ t : Fin cfg1.N, ¬cond1_1 (grid1.coords t) → (cfg1.win 14).flush t = false := by decide +kernel
theorem liveAt1_C : ∀ t : Fin cfg1.N, cond1_1 (grid1.coords t) → cfg1.idle 14 (grid1.coords t) = false := by decide +kernel

abbrev ms1_0 (t : Fin cfg1.N) : Memref sig .tc .vmem S4096x6 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x6 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x8 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x8 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S8x3 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S8x256 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S8x1 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S32x256 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S32x1 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .smem S4 .f32 := win1_14.stage (cfg1.slots t 14)
abbrev hs1_14 (t : Fin cfg1.N) : (ms1_14 t).IsWhole := hstage1_14 ((cfg1.slots t 14).cast nbuf1_14)
/-- The scratch operands: the accumulator, and the two coefficient columns. -/
abbrev scM1_0 : Memref sig .tc .vmem S8x4096 .f32 := Memref.whole cc1_scratch0
abbrev scM1_1 : Memref sig .tc .vmem S256x8 .f32 := Memref.whole cc1_scratch1

end Cert.KernelIdeal.Run

end
-- ==== Proof.GramRun.lean ====
module

public import proofs.«01_k».proof.Proof.LossSetup
public import Idealize.ShloMosaic.Lib.Pipeline.ReadBack
public import Idealize.ShloMosaic.Lib.WritesUnit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S32768x6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)

set_option maxHeartbeats 1000000 in
/-- The Gram kernel's body, run whole in case A. -/
noncomputable def kernelRun0_A (c : Dev nD) (i : grid0.Coords) (arg1 : Memref sig .tc .vmem S32768x6 .f32) (harg1 : arg1.IsWhole) (arg2 : Memref sig .tc .vmem S8x128 .f32) (harg2 : arg2.IsWhole) (hc0 : cond0_0 i)
    (x0 : Vec F S32768x6 .f32) :
    { L1 : List (View.Piece (Elt F) S8x128 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__gram_kernel i arg1 harg1 arg2 harg2) K } := by
  refine ⟨?_, fun E K => ?run⟩
  case run =>
    simp only [cc0__gram_kernel_eq_skeleton]; unfold cc0__gram_kernel_skel
    unfold owns
    iintro ⟨⟨%f0, %hf0, H0⟩, ⟨%d1, %f1, -, H1⟩, Hk⟩
    obtain rfl := harg1.eq_unread hf0
    sl_exec (disch := first | sl_exact hc0)
    sl_step
    iapply Hk
    isplitl [H0]
    · iexists _; isplitr; · ipureintro; exact harg1.read_unread _
      iexact H0
    iexists _; iexact H1

set_option maxHeartbeats 1000000 in
/-- The Gram kernel's body, run whole in case B. -/
noncomputable def kernelRun0_B (c : Dev nD) (i : grid0.Coords) (arg1 : Memref sig .tc .vmem S32768x6 .f32) (harg1 : arg1.IsWhole) (arg2 : Memref sig .tc .vmem S8x128 .f32) (harg2 : arg2.IsWhole) (hc0 : ¬cond0_0 i)
    (x0 : Vec F S32768x6 .f32) (xo1 : Vec F S8x128 .f32) :
    { L1 : List (View.Piece (Elt F) S8x128 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__gram_kernel i arg1 harg1 arg2 harg2) K } := by
  refine ⟨?_, fun E K => ?run⟩
  case run =>
    simp only [cc0__gram_kernel_eq_skeleton]; unfold cc0__gram_kernel_skel
    unfold owns
    iintro ⟨⟨%f0, %hf0, H0⟩, ⟨%f1, %hf1, H1⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    iexists _; iexact H1

end Cert.KernelIdeal.Run

end
-- ==== Proof.GramRegion.lean ====
module

public import proofs.«01_k».proof.Proof.GramRun

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a region is entered: the parameter each region's half is stated at
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- What one step of the Gram kernel leaves: its block's products added to the accumulator. -/
def gramNext (x0 : Vec F S32768x6 .f32) (a : Vec F S8x128 .f32) : Vec F S8x128 .f32 :=
  k0_pay2 (View.ld x0 (Rect.unit (s := S32768x6) ![0, 0] S32768x6.size inb_S32768x6_S32768x6_0_0)) (View.ld a (Rect.unit (s := S8x128) ![0, 0] S8x128.size inb_S8x128_S8x128_0_0))
/-- A whole block stored over anything reads back as itself. -/
theorem read_whole8 (v : View sig .tc .vmem S8x128 .f32) (f : v.ty.Contents (Elt F)) (Z : Vec F S8x128 .f32) (L : List (View.Piece (Elt F) S8x128 .f32)) :
    v.read (Elt F) (v.writes (Elt F) f ((⟨Rect.unit (s := S8x128) ![0, 0] S8x128.size inb_S8x128_S8x128_0_0, Z⟩ : View.Piece (Elt F) S8x128 .f32) :: L)) = Z := by
  funext y
  exact View.read_writes_cons_rows_of_mem v f (o := 0) inb_S8x128_S8x128_0_0 Z L y y rfl (Nat.zero_add _).symm rfl
theorem fill_read8 (v : View sig .tc .vmem S8x128 .f32) (Z : Vec F S8x128 .f32) (L : List (View.Piece (Elt F) S8x128 .f32)) :
    v.readCov ((⟨Rect.unit (s := S8x128) ![0, 0] ![8, 128] inb_S8x128_S8x128_0_0, Z⟩ : View.Piece (Elt F) S8x128 .f32) :: L) (Rect.unit (s := S8x128) ![0, 0] ![8, 128] inb_S8x128_S8x128_0_0).toLoadRect
      = View.ld Z (Rect.unit (s := S8x128) ![0, 0] ![8, 128] inb_S8x128_S8x128_0_0) :=
  View.readCov_fill v _ Z L _ (by decide)
theorem out0_A_read (c : Dev nD) (i : grid0.Coords) (arg1 : Memref sig .tc .vmem S32768x6 .f32) (harg1 : arg1.IsWhole) (arg2 : Memref sig .tc .vmem S8x128 .f32) (harg2 : arg2.IsWhole) (hc0 : cond0_0 i)
    (x0 : Vec F S32768x6 .f32) (f : arg2.view.ty.Contents (Elt F)) :
    arg2.view.read (Elt F) (arg2.view.writes (Elt F) f (kernelRun0_A c i arg1 harg1 arg2 harg2 hc0 x0).1) = gramNext x0 k0_pay1 := by
  have hp : (kernelRun0_A c i arg1 harg1 arg2 harg2 hc0 x0).1 = [⟨Rect.unit (s := S8x128) ![0, 0] S8x128.size inb_S8x128_S8x128_0_0, gramNext x0 k0_pay1⟩,
      ⟨Rect.unit (s := S8x128) ![0, 0] S8x128.size inb_S8x128_S8x128_0_0, k0_pay1⟩] := by
    unfold kernelRun0_A gramNext
    simp only [View.readAt_eq_ld, Memref.IsWhole.read_unread, kernelRun0_A.sl.v16, kernelRun0_A.sl.H1_1]
    rw [fill_read8]
    try rfl
  rw [hp]; exact read_whole8 _ _ _ _

theorem out0_B_read (c : Dev nD) (i : grid0.Coords) (arg1 : Memref sig .tc .vmem S32768x6 .f32) (harg1 : arg1.IsWhole) (arg2 : Memref sig .tc .vmem S8x128 .f32) (harg2 : arg2.IsWhole) (hc0 : ¬cond0_0 i)
    (x0 : Vec F S32768x6 .f32) (xo1 : Vec F S8x128 .f32) (f : arg2.view.ty.Contents (Elt F)) :
    arg2.view.read (Elt F) (arg2.view.writes (Elt F) f (kernelRun0_B c i arg1 harg1 arg2 harg2 hc0 x0 xo1).1) = gramNext x0 xo1 := by
  have hp : (kernelRun0_B c i arg1 harg1 arg2 harg2 hc0 x0 xo1).1 = [⟨Rect.unit (s := S8x128) ![0, 0] S8x128.size inb_S8x128_S8x128_0_0, gramNext x0 xo1⟩] := by
    unfold kernelRun0_B gramNext
    simp only [View.readAt_eq_ld, Memref.IsWhole.read_unread]
    try rfl
  rw [hp]; exact read_whole8 _ _ _ _

/-! ## What the outputs hold after each point -/

/-- The Gram block after the body at position `n`: the steps' products added up from zero. -/
def outsAt0 (c : Dev nD) : (n : ℕ) → n < cfg0.N → Vec F S8x128 .f32
  | 0, hn => gramNext (iblk0 V c 0 ⟨0, hn⟩) k0_pay1
  | n + 1, hn => gramNext (iblk0 V c 0 ⟨n + 1, hn⟩) (outsAt0 c n (Nat.lt_of_succ_lt hn))

theorem outsAt0_A (c : Dev nD) (t : Fin cfg0.N) (h0 : t.val % 8 = 0) :
    outsAt0 V c t.val t.isLt = gramNext (iblk0 V c 0 t) k0_pay1 := by
  obtain ⟨n, hn⟩ := t
  have hN : n < 8 := lt_of_lt_of_eq hn (show cfg0.N = 8 from N_0)
  cases n with
  | zero => rfl
  | succ n => exact absurd h0 (by dsimp only; omega)

theorem outsAt0_B (c : Dev nD) (t : Fin cfg0.N) (h0 : ¬t.val % 8 = 0) :
    outsAt0 V c t.val t.isLt = gramNext (iblk0 V c 0 t) (outsAt0 V c (t.val - 1) (Nat.lt_of_le_of_lt (Nat.sub_le _ _) t.isLt)) := by
  obtain ⟨n, hn⟩ := t
  cases n with
  | zero => exact absurd (Nat.zero_mod _) h0
  | succ n => rfl

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- At a point of case B output 1's current staging buffer holds what the body left at the point before: the point is
    not the first, the buffer was not written back between (`flush0_1`), the window is live and uncut (Lib/Pipeline/Frame.lean
    `Dat.before_out_kept`). -/
theorem before0_1_B (c : Dev nD) (t : Fin cfg0.N) (h0 : ¬t.val % 8 = 0) (d) :
    (dat0 V c).before 1 t d = (outsAt0 V c (t.val - 1) (Nat.lt_of_le_of_lt (Nat.sub_le _ _) t.isLt)) := by
  have hN : t.val < 8 := lt_of_lt_of_eq t.isLt (show cfg0.N = 8 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 8 := lt_of_lt_of_eq t.isLt (show cfg0.N = 8 from N_0)
  by_cases h0 : t.val % 8 = 0
  · rw [outsAt0_A V c t h0]
    iintro ⟨HΦ, Ho, ⟨%d0, H0⟩, ⟨%d1, H1⟩⟩
    iapply ((kernelRun0_A c (grid0.coords t) _ _ _ _ ((hcond0_0 t).mpr h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact out0_A_read c _ _ _ _ _ _ _ _
  · rw [outsAt0_B V c t h0]
    simp only [before0_1_B V c t h0]
    iintro ⟨HΦ, Ho, ⟨%d0, H0⟩, ⟨%d1, H1⟩⟩
    iapply ((kernelRun0_B c (grid0.coords t) _ _ _ _ (fun h => h0 ((hcond0_0 t).mp h)) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact out0_B_read c _ _ _ _ _ _ _ _ _

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.LossRunA.lean ====
module

public import proofs.«01_k».proof.Proof.LossSetup

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The loss kernel's body, run whole in case A. -/
noncomputable def lossRunA (c : Dev nD) (i : grid1.Coords) (arg1 : Memref sig .tc .vmem S4096x6 .f32) (harg1 : arg1.IsWhole) (arg2 : Memref sig .tc .vmem S4096x6 .f32) (harg2 : arg2.IsWhole) (arg3 : Memref sig .tc .vmem S4096 .i32) (harg3 : arg3.IsWhole) (arg4 : Memref sig .tc .vmem S4096 .i32) (harg4 : arg4.IsWhole) (arg5 : Memref sig .tc .vmem S8x128 .f32) (harg5 : arg5.IsWhole) (arg6 : Memref sig .tc .vmem S256x8 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S256x8 .f32) (harg9 : arg9.IsWhole) (arg10 : Memref sig .tc .vmem S8x3 .f32) (harg10 : arg10.IsWhole) (arg11 : Memref sig .tc .vmem S8x256 .f32) (harg11 : arg11.IsWhole) (arg12 : Memref sig .tc .vmem S8x1 .f32) (harg12 : arg12.IsWhole) (arg13 : Memref sig .tc .vmem S32x256 .f32) (harg13 : arg13.IsWhole) (arg14 : Memref sig .tc .vmem S32x1 .f32) (harg14 : arg14.IsWhole) (arg15 : Memref sig .tc .smem S4 .f32) (harg15 : arg15.IsWhole) (arg16 : Memref sig .tc .vmem S8x4096 .f32) (harg16 : arg16.IsWhole) (arg17 : Memref sig .tc .vmem S256x8 .f32) (harg17 : arg17.IsWhole) (hc0 : cond1_0 i) (hc1 : ¬cond1_1 i)
    (x0 : Vec F S4096x6 .f32) (x1 : Vec F S4096x6 .f32) (x2 : Vec F S4096 .i32) (x3 : Vec F S4096 .i32) (x4 : Vec F S8x128 .f32) (x5 : Vec F S256x8 .f32) (x6 : Vec F S256x1 .f32) (x7 : Vec F S256x256 .f32) (x8 : Vec F S256x8 .f32) (x9 : Vec F S8x3 .f32) (x10 : Vec F S8x256 .f32) (x11 : Vec F S8x1 .f32) (x12 : Vec F S32x256 .f32) (x13 : Vec F S32x1 .f32) (xs1 : Vec F S256x8 .f32) :
    Σ' (LS0 : List (View.Piece (Elt F) S8x4096 .f32)), { LS1 : List (View.Piece (Elt F) S256x8 .f32) //
      ∀ (xi14 : Vec F S4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ d, owns (c : Thread nD τ) arg16 fullShare d) ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f LS0) ∗ (arg17.view.loc (c : Thread nD τ) ↦[arg17.view.set]{fullShare} arg17.view.writes (Elt F) (harg17.unread xs1) LS1)) -∗ K ⟨⟩))
          ⊢ wp frame (wpE (defs₀ (F := F)) Variants.none c none) E (cc1__loss_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun xi14 E K => ?run⟩
  case run =>
    simp only [cc1__loss_kernel_eq_skeleton]; unfold cc1__loss_kernel_skel
    simp only [k1_part3_eq_skeleton, k1_part1_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    obtain rfl := harg15.eq_unread hf14
    obtain rfl := harg17.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [HS0]; · iexists _; iexact HS0
    iexact HS1

end Cert.KernelIdeal.Run

end
-- ==== Proof.LossRunB.lean ====
module

public import proofs.«01_k».proof.Proof.LossRunA

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The loss kernel's body, run whole in case B. -/
noncomputable def lossRunB (c : Dev nD) (i : grid1.Coords) (arg1 : Memref sig .tc .vmem S4096x6 .f32) (harg1 : arg1.IsWhole) (arg2 : Memref sig .tc .vmem S4096x6 .f32) (harg2 : arg2.IsWhole) (arg3 : Memref sig .tc .vmem S4096 .i32) (harg3 : arg3.IsWhole) (arg4 : Memref sig .tc .vmem S4096 .i32) (harg4 : arg4.IsWhole) (arg5 : Memref sig .tc .vmem S8x128 .f32) (harg5 : arg5.IsWhole) (arg6 : Memref sig .tc .vmem S256x8 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S256x8 .f32) (harg9 : arg9.IsWhole) (arg10 : Memref sig .tc .vmem S8x3 .f32) (harg10 : arg10.IsWhole) (arg11 : Memref sig .tc .vmem S8x256 .f32) (harg11 : arg11.IsWhole) (arg12 : Memref sig .tc .vmem S8x1 .f32) (harg12 : arg12.IsWhole) (arg13 : Memref sig .tc .vmem S32x256 .f32) (harg13 : arg13.IsWhole) (arg14 : Memref sig .tc .vmem S32x1 .f32) (harg14 : arg14.IsWhole) (arg15 : Memref sig .tc .smem S4 .f32) (harg15 : arg15.IsWhole) (arg16 : Memref sig .tc .vmem S8x4096 .f32) (harg16 : arg16.IsWhole) (arg17 : Memref sig .tc .vmem S256x8 .f32) (harg17 : arg17.IsWhole) (hc0 : ¬cond1_0 i) (hc1 : ¬cond1_1 i)
    (x0 : Vec F S4096x6 .f32) (x1 : Vec F S4096x6 .f32) (x2 : Vec F S4096 .i32) (x3 : Vec F S4096 .i32) (x4 : Vec F S8x128 .f32) (x5 : Vec F S256x8 .f32) (x6 : Vec F S256x1 .f32) (x7 : Vec F S256x256 .f32) (x8 : Vec F S256x8 .f32) (x9 : Vec F S8x3 .f32) (x10 : Vec F S8x256 .f32) (x11 : Vec F S8x1 .f32) (x12 : Vec F S32x256 .f32) (x13 : Vec F S32x1 .f32) (xs0 : Vec F S8x4096 .f32) (xs1 : Vec F S256x8 .f32) :
    { LS0 : List (View.Piece (Elt F) S8x4096 .f32) //
      ∀ (xi14 : Vec F S4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (arg16.view.loc (c : Thread nD τ) ↦[arg16.view.set]{fullShare} arg16.view.writes (Elt F) (harg16.unread xs0) LS0) ∗ owns (c : Thread nD τ) arg17 fullShare xs1) -∗ K ⟨⟩))
          ⊢ wp frame (wpE (defs₀ (F := F)) Variants.none c none) E (cc1__loss_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun xi14 E K => ?run⟩
  case run =>
    simp only [cc1__loss_kernel_eq_skeleton]; unfold cc1__loss_kernel_skel
    simp only [k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    obtain rfl := harg15.eq_unread hf14
    obtain rfl := harg16.eq_unread hfs0
    obtain rfl := harg17.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [HS0]; · iexact HS0
    iexists _; isplitr; · ipureintro; exact harg17.read_unread _
    iexact HS1

end Cert.KernelIdeal.Run

end
-- ==== Proof.LossRunC.lean ====
module

public import proofs.«01_k».proof.Proof.LossRunB

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The loss kernel's body, run whole in case C. -/
noncomputable def lossRunC (c : Dev nD) (i : grid1.Coords) (arg1 : Memref sig .tc .vmem S4096x6 .f32) (harg1 : arg1.IsWhole) (arg2 : Memref sig .tc .vmem S4096x6 .f32) (harg2 : arg2.IsWhole) (arg3 : Memref sig .tc .vmem S4096 .i32) (harg3 : arg3.IsWhole) (arg4 : Memref sig .tc .vmem S4096 .i32) (harg4 : arg4.IsWhole) (arg5 : Memref sig .tc .vmem S8x128 .f32) (harg5 : arg5.IsWhole) (arg6 : Memref sig .tc .vmem S256x8 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S256x8 .f32) (harg9 : arg9.IsWhole) (arg10 : Memref sig .tc .vmem S8x3 .f32) (harg10 : arg10.IsWhole) (arg11 : Memref sig .tc .vmem S8x256 .f32) (harg11 : arg11.IsWhole) (arg12 : Memref sig .tc .vmem S8x1 .f32) (harg12 : arg12.IsWhole) (arg13 : Memref sig .tc .vmem S32x256 .f32) (harg13 : arg13.IsWhole) (arg14 : Memref sig .tc .vmem S32x1 .f32) (harg14 : arg14.IsWhole) (arg15 : Memref sig .tc .smem S4 .f32) (harg15 : arg15.IsWhole) (arg16 : Memref sig .tc .vmem S8x4096 .f32) (harg16 : arg16.IsWhole) (arg17 : Memref sig .tc .vmem S256x8 .f32) (harg17 : arg17.IsWhole) (hc0 : ¬cond1_0 i) (hc1 : cond1_1 i)
    (x0 : Vec F S4096x6 .f32) (x1 : Vec F S4096x6 .f32) (x2 : Vec F S4096 .i32) (x3 : Vec F S4096 .i32) (x4 : Vec F S8x128 .f32) (x5 : Vec F S256x8 .f32) (x6 : Vec F S256x1 .f32) (x7 : Vec F S256x256 .f32) (x8 : Vec F S256x8 .f32) (x9 : Vec F S8x3 .f32) (x10 : Vec F S8x256 .f32) (x11 : Vec F S8x1 .f32) (x12 : Vec F S32x256 .f32) (x13 : Vec F S32x1 .f32) (xs0 : Vec F S8x4096 .f32) (xs1 : Vec F S256x8 .f32) :
    Σ' (LS0 : List (View.Piece (Elt F) S8x4096 .f32)), { L14 : List (View.Piece (Elt F) S4 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (arg16.view.loc (c : Thread nD τ) ↦[arg16.view.set]{fullShare} arg16.view.writes (Elt F) (harg16.unread xs0) LS0) ∗ owns (c : Thread nD τ) arg17 fullShare xs1) -∗ K ⟨⟩))
          ⊢ wp frame (wpE (defs₀ (F := F)) Variants.none c none) E (cc1__loss_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc1__loss_kernel_eq_skeleton]; unfold cc1__loss_kernel_skel
    simp only [k1_part3_eq_skeleton, k1_part4_eq_skeleton, k1_part5_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    obtain rfl := harg16.eq_unread hfs0
    obtain rfl := harg17.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [HS0]; · iexact HS0
    iexists _; isplitr; · ipureintro; exact harg17.read_unread _
    iexact HS1

end Cert.KernelIdeal.Run

end
-- ==== Proof.LossStep.lean ====
module

public import proofs.«01_k».proof.Proof.LossRunC
public import Idealize.ShloMosaic.Lib.WritesUnit
public import Idealize.ShloMosaic.Lib.ValueIdxCore
public import Idealize.ShloMosaic.Lib.CellWrites

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## What one step of the loss kernel computes, as functions of its blocks -/

/-- The slope column of the folded batch normalisation. -/
def aColOf (x4 : Vec F S8x128 .f32) (x5 : Vec F S256x8 .f32) (x6 : Vec F S256x1 .f32) (x7 : Vec F S256x256 .f32) (x8 : Vec F S256x8 .f32) : Vec F S256x1 .f32 :=
  k1_pay19 (k1_pay6 (View.ld x8 (Rect.unit ![0, 0] S256x1.size inb_S256x8_S256x1_0_0))) (k1_pay9 (View.ld x8 (Rect.unit ![0, 2] S256x1.size inb_S256x8_S256x1_0_2)) (View.ld x5 (Rect.unit ![0, 0] S256x8.size inb_S256x8_S256x8_0_0)) (View.ld x6 (Rect.unit ![0, 0] S256x1.size inb_S256x1_S256x1_0_0)) (View.ld x7 (Rect.unit ![0, 0] S256x256.size inb_S256x256_S256x256_0_0))) (k1_pay10 (View.ld x4 (Rect.unit ![0, 0] S8x8.size inb_S8x128_S8x8_0_0)))
    (k1_pay11 (View.ld x8 (Rect.unit ![0, 2] S256x1.size inb_S256x8_S256x1_0_2)) (View.ld x5 (Rect.unit ![0, 0] S256x8.size inb_S256x8_S256x8_0_0)) (View.ld x6 (Rect.unit ![0, 0] S256x1.size inb_S256x1_S256x1_0_0)) (View.ld x7 (Rect.unit ![0, 0] S256x256.size inb_S256x256_S256x256_0_0)) (View.ld x4 (Rect.unit ![0, 0] S8x8.size inb_S8x128_S8x8_0_0)))
/-- The offset column of the folded batch normalisation. -/
def bColOf (x4 : Vec F S8x128 .f32) (x5 : Vec F S256x8 .f32) (x6 : Vec F S256x1 .f32) (x7 : Vec F S256x256 .f32) (x8 : Vec F S256x8 .f32) : Vec F S256x1 .f32 :=
  k1_pay20 (k1_pay6 (View.ld x8 (Rect.unit ![0, 0] S256x1.size inb_S256x8_S256x1_0_0))) (k1_pay7 (View.ld x8 (Rect.unit ![0, 1] S256x1.size inb_S256x8_S256x1_0_1))) (k1_pay8 (View.ld x8 (Rect.unit ![0, 2] S256x1.size inb_S256x8_S256x1_0_2))) (k1_pay9 (View.ld x8 (Rect.unit ![0, 2] S256x1.size inb_S256x8_S256x1_0_2)) (View.ld x5 (Rect.unit ![0, 0] S256x8.size inb_S256x8_S256x8_0_0)) (View.ld x6 (Rect.unit ![0, 0] S256x1.size inb_S256x1_S256x1_0_0)) (View.ld x7 (Rect.unit ![0, 0] S256x256.size inb_S256x256_S256x256_0_0))) (k1_pay10 (View.ld x4 (Rect.unit ![0, 0] S8x8.size inb_S8x128_S8x8_0_0)))
    (k1_pay11 (View.ld x8 (Rect.unit ![0, 2] S256x1.size inb_S256x8_S256x1_0_2)) (View.ld x5 (Rect.unit ![0, 0] S256x8.size inb_S256x8_S256x8_0_0)) (View.ld x6 (Rect.unit ![0, 0] S256x1.size inb_S256x1_S256x1_0_0)) (View.ld x7 (Rect.unit ![0, 0] S256x256.size inb_S256x256_S256x256_0_0)) (View.ld x4 (Rect.unit ![0, 0] S8x8.size inb_S8x128_S8x8_0_0)))
/-- The predicted offsets of a tile of points. -/
def biasOf (x0 : Vec F S4096x6 .f32) (x5 : Vec F S256x8 .f32) (x6 : Vec F S256x1 .f32) (x7 : Vec F S256x256 .f32) (ac bc : Vec F S256x1 .f32) (x10 : Vec F S8x256 .f32) (x11 : Vec F S8x1 .f32) : FVec F S3x4096 .f32 :=
  k1_pay22 (View.ld x0 (Rect.unit ![0, 0] S4096x6.size inb_S4096x6_S4096x6_0_0)) (View.ld x5 (Rect.unit ![0, 0] S256x6.size inb_S256x8_S256x6_0_0)) (View.ld x6 (Rect.unit ![0, 0] S256x1.size inb_S256x1_S256x1_0_0)) (View.ld x7 (Rect.unit ![0, 0] S256x256.size inb_S256x256_S256x256_0_0)) ac bc (View.ld x10 (Rect.unit ![0, 0] S8x256.size inb_S8x256_S8x256_0_0)) (View.ld x11 (Rect.unit ![0, 0] S8x1.size inb_S8x1_S8x1_0_0))
/-- The logits of a tile of points. -/
def logitOf (x0 : Vec F S4096x6 .f32) (x5 : Vec F S256x8 .f32) (x6 : Vec F S256x1 .f32) (x12 : Vec F S32x256 .f32) (x13 : Vec F S32x1 .f32) : FVec F S32x4096 .f32 :=
  k1_pay30 (k1_pay21 (View.ld x0 (Rect.unit ![0, 0] S4096x6.size inb_S4096x6_S4096x6_0_0)) (View.ld x5 (Rect.unit ![0, 0] S256x6.size inb_S256x8_S256x6_0_0)) (View.ld x6 (Rect.unit ![0, 0] S256x1.size inb_S256x1_S256x1_0_0))) (View.ld x12 (Rect.unit ![0, 0] S32x256.size inb_S32x256_S32x256_0_0)) (View.ld x13 (Rect.unit ![0, 0] S32x1.size inb_S32x1_S32x1_0_0))
/-- The five rows a step adds to: the cross entropies, the valid labels, the masked distances, the mask, the masked cosines. -/
def row0Of (x0 : Vec F S4096x6 .f32) (x2 : Vec F S4096 .i32) (x5 : Vec F S256x8 .f32) (x6 : Vec F S256x1 .f32) (x12 : Vec F S32x256 .f32) (x13 : Vec F S32x1 .f32) (r : Vec F S1x4096 .f32) : Vec F S1x4096 .f32 := k1_pay34 (logitOf x0 x5 x6 x12 x13) (View.ld x2 (Rect.unit ![0] S4096.size inb_S4096_S4096_0)) r
def row1Of (x2 : Vec F S4096 .i32) (r : Vec F S1x4096 .f32) : Vec F S1x4096 .f32 := k1_pay1 (k1_pay35 (View.ld x2 (Rect.unit ![0] S4096.size inb_S4096_S4096_0)) r)
def row2Of (x1 : Vec F S4096x6 .f32) (x3 : Vec F S4096 .i32) (x9 : Vec F S8x3 .f32) (bp : FVec F S3x4096 .f32) (r : Vec F S1x4096 .f32) : Vec F S1x4096 .f32 :=
  k1_pay2 (k1_pay27 (View.ld x3 (Rect.unit ![0] S4096.size inb_S4096_S4096_0))) (k1_pay28 bp (k1_pay24 (View.ld x1 (Rect.unit ![0, 0] S4096x6.size inb_S4096x6_S4096x6_0_0))) (k1_pay25 (View.ld x1 (Rect.unit ![0, 0] S4096x6.size inb_S4096x6_S4096x6_0_0))) (View.ld x9 (Rect.unit ![0, 0] S8x3.size inb_S8x3_S8x3_0_0))) r
def row3Of (x3 : Vec F S4096 .i32) (r : Vec F S1x4096 .f32) : Vec F S1x4096 .f32 := k1_pay3 (k1_pay27 (View.ld x3 (Rect.unit ![0] S4096.size inb_S4096_S4096_0))) r
def row4Of (x1 : Vec F S4096x6 .f32) (x3 : Vec F S4096 .i32) (x9 : Vec F S8x3 .f32) (bp : FVec F S3x4096 .f32) (r : Vec F S1x4096 .f32) : Vec F S1x4096 .f32 :=
  k1_pay4 (k1_pay27 (View.ld x3 (Rect.unit ![0] S4096.size inb_S4096_S4096_0))) (k1_pay29 bp (k1_pay24 (View.ld x1 (Rect.unit ![0, 0] S4096x6.size inb_S4096x6_S4096x6_0_0))) (k1_pay25 (View.ld x1 (Rect.unit ![0, 0] S4096x6.size inb_S4096x6_S4096x6_0_0))) (View.ld x9 (Rect.unit ![0, 0] S8x3.size inb_S8x3_S8x3_0_0))) r

/-- Rows 0 to 4 replaced, rows 5 to 7 kept. -/
def accRows (w0 w1 w2 w3 w4 : Vec F S1x4096 .f32) (a : Vec F S8x4096 .f32) : Vec F S8x4096 .f32 := fun y =>
  if (y 0).val = 0 then w0 (ix2 0 (y 1)) else if (y 0).val = 1 then w1 (ix2 0 (y 1)) else if (y 0).val = 2 then w2 (ix2 0 (y 1))
  else if (y 0).val = 3 then w3 (ix2 0 (y 1)) else if (y 0).val = 4 then w4 (ix2 0 (y 1)) else a y

/-- The accumulator after a step, from the accumulator before it. -/
def accNext (x0 : Vec F S4096x6 .f32) (x1 : Vec F S4096x6 .f32) (x2 : Vec F S4096 .i32) (x3 : Vec F S4096 .i32) (x5 : Vec F S256x8 .f32) (x6 : Vec F S256x1 .f32) (x7 : Vec F S256x256 .f32) (x9 : Vec F S8x3 .f32) (x10 : Vec F S8x256 .f32) (x11 : Vec F S8x1 .f32) (x12 : Vec F S32x256 .f32) (x13 : Vec F S32x1 .f32) (ac bc : Vec F S256x1 .f32) (a : Vec F S8x4096 .f32) : Vec F S8x4096 .f32 :=
  accRows (row0Of x0 x2 x5 x6 x12 x13 (View.ld a (Rect.unit (s := S8x4096) ![0, 0] S1x4096.size inb_S8x4096_S1x4096_0_0))) (row1Of x2 (View.ld a (Rect.unit (s := S8x4096) ![1, 0] S1x4096.size inb_S8x4096_S1x4096_1_0)))
    (row2Of x1 x3 x9 (biasOf x0 x5 x6 x7 ac bc x10 x11) (View.ld a (Rect.unit (s := S8x4096) ![2, 0] S1x4096.size inb_S8x4096_S1x4096_2_0))) (row3Of x3 (View.ld a (Rect.unit (s := S8x4096) ![3, 0] S1x4096.size inb_S8x4096_S1x4096_3_0)))
    (row4Of x1 x3 x9 (biasOf x0 x5 x6 x7 ac bc x10 x11) (View.ld a (Rect.unit (s := S8x4096) ![4, 0] S1x4096.size inb_S8x4096_S1x4096_4_0))) a

/-- The four scalars the last step stores, from the final accumulator. -/
def outOf (a : Vec F S8x4096 .f32) : Vec F S4 .f32 := fun y =>
  if (y 0).val = 0 then k1_pay16 (View.ld a (Rect.unit (s := S8x4096) ![0, 0] S1x4096.size inb_S8x4096_S1x4096_0_0)) (View.ld a (Rect.unit (s := S8x4096) ![1, 0] S1x4096.size inb_S8x4096_S1x4096_1_0)) (View.ld a (Rect.unit (s := S8x4096) ![3, 0] S1x4096.size inb_S8x4096_S1x4096_3_0)) (View.ld a (Rect.unit (s := S8x4096) ![2, 0] S1x4096.size inb_S8x4096_S1x4096_2_0)) (View.ld a (Rect.unit (s := S8x4096) ![4, 0] S1x4096.size inb_S8x4096_S1x4096_4_0))
  else if (y 0).val = 1 then k1_pay12 (View.ld a (Rect.unit (s := S8x4096) ![0, 0] S1x4096.size inb_S8x4096_S1x4096_0_0)) (View.ld a (Rect.unit (s := S8x4096) ![1, 0] S1x4096.size inb_S8x4096_S1x4096_1_0))
  else if (y 0).val = 2 then k1_pay14 (View.ld a (Rect.unit (s := S8x4096) ![3, 0] S1x4096.size inb_S8x4096_S1x4096_3_0)) (View.ld a (Rect.unit (s := S8x4096) ![2, 0] S1x4096.size inb_S8x4096_S1x4096_2_0))
  else k1_pay15 (View.ld a (Rect.unit (s := S8x4096) ![3, 0] S1x4096.size inb_S8x4096_S1x4096_3_0)) (View.ld a (Rect.unit (s := S8x4096) ![4, 0] S1x4096.size inb_S8x4096_S1x4096_4_0))

/-- The five row stores, newest first. -/
abbrev rowPieces (w0 w1 w2 w3 w4 : Vec F S1x4096 .f32) : List (View.Piece (Elt F) S8x4096 .f32) :=
  [⟨Rect.unit (s := S8x4096) ![4, 0] S1x4096.size inb_S8x4096_S1x4096_4_0, w4⟩, ⟨Rect.unit (s := S8x4096) ![3, 0] S1x4096.size inb_S8x4096_S1x4096_3_0, w3⟩, ⟨Rect.unit (s := S8x4096) ![2, 0] S1x4096.size inb_S8x4096_S1x4096_2_0, w2⟩, ⟨Rect.unit (s := S8x4096) ![1, 0] S1x4096.size inb_S8x4096_S1x4096_1_0, w1⟩, ⟨Rect.unit (s := S8x4096) ![0, 0] S1x4096.size inb_S8x4096_S1x4096_0_0, w0⟩]

/-- A row store read at its own row, -/
theorem read_row_hit (v : View sig .tc .vmem S8x4096 .f32) (f : v.ty.Contents (Elt F)) (j : ℕ) (inb : ∀ a, ![j, 0] a + S1x4096.size a ≤ S8x4096.size a)
    (w : Vec F S1x4096 .f32) (L : List (View.Piece (Elt F) S8x4096 .f32)) (y : S8x4096.Idx) (hj : (y 0).val = j) :
    v.read (Elt F) (v.writes (Elt F) f ((⟨Rect.unit (s := S8x4096) ![j, 0] S1x4096.size inb, w⟩ : View.Piece (Elt F) S8x4096 .f32) :: L)) y = w (ix2 0 (y 1)) :=
  View.read_writes_cons_rows_of_mem v f (o := j) inb w L y (ix2 (0 : Fin 1) (y 1)) rfl hj rfl
/-- under a store of the whole, -/
theorem read_whole_piece (v : View sig .tc .vmem S8x4096 .f32) (f : v.ty.Contents (Elt F)) (Z : Vec F S8x4096 .f32) (y : S8x4096.Idx) :
    v.read (Elt F) (v.writes (Elt F) f [(⟨Rect.unit (s := S8x4096) ![0, 0] S8x4096.size inb_S8x4096_S8x4096_0_0, Z⟩ : View.Piece (Elt F) S8x4096 .f32)]) y = Z y :=
  View.read_writes_cons_rows_of_mem v f (o := 0) inb_S8x4096_S8x4096_0_0 Z [] y y rfl (Nat.zero_add _).symm rfl
/-- and at another row. -/
theorem read_row_miss (v : View sig .tc .vmem S8x4096 .f32) (f : v.ty.Contents (Elt F)) (j : ℕ) (inb : ∀ a, ![j, 0] a + S1x4096.size a ≤ S8x4096.size a)
    (w : Vec F S1x4096 .f32) (L : List (View.Piece (Elt F) S8x4096 .f32)) (y : S8x4096.Idx) (hj : ¬(y 0).val = j) :
    v.read (Elt F) (v.writes (Elt F) f ((⟨Rect.unit (s := S8x4096) ![j, 0] S1x4096.size inb, w⟩ : View.Piece (Elt F) S8x4096 .f32) :: L)) y
      = v.read (Elt F) (v.writes (Elt F) f L) y :=
  View.read_writes_cons_rows_of_not_mem v f (o := j) (W := 1) inb w L y rfl rfl (by omega)

/-- Five row stores read back: the rows stored, and below them whatever was there. -/
theorem read_rowPieces (v : View sig .tc .vmem S8x4096 .f32) (f : v.ty.Contents (Elt F)) (w0 w1 w2 w3 w4 : Vec F S1x4096 .f32) (a : Vec F S8x4096 .f32)
    (y : S8x4096.Idx) (h : (y 0).val < 5 ∨ v.read (Elt F) f y = a y) :
    v.read (Elt F) (v.writes (Elt F) f (rowPieces w0 w1 w2 w3 w4)) y = accRows w0 w1 w2 w3 w4 a y := by
  unfold rowPieces
  by_cases h4 : (y 0).val = 4
  · rw [read_row_hit v f 4 _ _ _ y h4]
    unfold accRows
    simp only [h4]; rfl
  rw [read_row_miss v f 4 _ _ _ y h4]
  by_cases h3 : (y 0).val = 3
  · rw [read_row_hit v f 3 _ _ _ y h3]
    unfold accRows
    simp only [h3]; rfl
  rw [read_row_miss v f 3 _ _ _ y h3]
  by_cases h2 : (y 0).val = 2
  · rw [read_row_hit v f 2 _ _ _ y h2]
    unfold accRows
    simp only [h2]; rfl
  rw [read_row_miss v f 2 _ _ _ y h2]
  by_cases h1 : (y 0).val = 1
  · rw [read_row_hit v f 1 _ _ _ y h1]
    unfold accRows
    simp only [h1]; rfl
  rw [read_row_miss v f 1 _ _ _ y h1]
  by_cases h0 : (y 0).val = 0
  · rw [read_row_hit v f 0 _ _ _ y h0]
    unfold accRows
    simp only [h0]; rfl
  rw [read_row_miss v f 0 _ _ _ y h0]
  unfold accRows
  rw [if_neg h0, if_neg h1, if_neg h2, if_neg h3, if_neg h4]
  exact h.resolve_left (by omega)

theorem accRows_ld0 (w0 w1 w2 w3 w4 : Vec F S1x4096 .f32) (a : Vec F S8x4096 .f32) : (View.ld (accRows w0 w1 w2 w3 w4 a) (Rect.unit (s := S8x4096) ![0, 0] S1x4096.size inb_S8x4096_S1x4096_0_0)) = w0 := by
  funext x
  obtain ⟨p, q, rfl⟩ : ∃ p q, x = ix2 p q := ⟨x 0, x 1, eq_ix2 x⟩
  obtain rfl : p = 0 := Subsingleton.elim _ _
  show accRows w0 w1 w2 w3 w4 a _ = _
  unfold accRows
  have e0 : ((Rect.unit (s := S8x4096) ![0, 0] S1x4096.size inb_S8x4096_S1x4096_0_0).toLoadRect.idx (ix2 0 q) 0).val = 0 := rfl
  have e1 : ((Rect.unit (s := S8x4096) ![0, 0] S1x4096.size inb_S8x4096_S1x4096_0_0).toLoadRect.idx (ix2 0 q) 1) = q := Fin.ext (by show 0 + 1 * q.val = q.val; omega)
  simp only [e0, e1]; rfl

theorem accRows_ld1 (w0 w1 w2 w3 w4 : Vec F S1x4096 .f32) (a : Vec F S8x4096 .f32) : (View.ld (accRows w0 w1 w2 w3 w4 a) (Rect.unit (s := S8x4096) ![1, 0] S1x4096.size inb_S8x4096_S1x4096_1_0)) = w1 := by
  funext x
  obtain ⟨p, q, rfl⟩ : ∃ p q, x = ix2 p q := ⟨x 0, x 1, eq_ix2 x⟩
  obtain rfl : p = 0 := Subsingleton.elim _ _
  show accRows w0 w1 w2 w3 w4 a _ = _
  unfold accRows
  have e0 : ((Rect.unit (s := S8x4096) ![1, 0] S1x4096.size inb_S8x4096_S1x4096_1_0).toLoadRect.idx (ix2 0 q) 0).val = 1 := rfl
  have e1 : ((Rect.unit (s := S8x4096) ![1, 0] S1x4096.size inb_S8x4096_S1x4096_1_0).toLoadRect.idx (ix2 0 q) 1) = q := Fin.ext (by show 0 + 1 * q.val = q.val; omega)
  simp only [e0, e1]; rfl

theorem accRows_ld2 (w0 w1 w2 w3 w4 : Vec F S1x4096 .f32) (a : Vec F S8x4096 .f32) : (View.ld (accRows w0 w1 w2 w3 w4 a) (Rect.unit (s := S8x4096) ![2, 0] S1x4096.size inb_S8x4096_S1x4096_2_0)) = w2 := by
  funext x
  obtain ⟨p, q, rfl⟩ : ∃ p q, x = ix2 p q := ⟨x 0, x 1, eq_ix2 x⟩
  obtain rfl : p = 0 := Subsingleton.elim _ _
  show accRows w0 w1 w2 w3 w4 a _ = _
  unfold accRows
  have e0 : ((Rect.unit (s := S8x4096) ![2, 0] S1x4096.size inb_S8x4096_S1x4096_2_0).toLoadRect.idx (ix2 0 q) 0).val = 2 := rfl
  have e1 : ((Rect.unit (s := S8x4096) ![2, 0] S1x4096.size inb_S8x4096_S1x4096_2_0).toLoadRect.idx (ix2 0 q) 1) = q := Fin.ext (by show 0 + 1 * q.val = q.val; omega)
  simp only [e0, e1]; rfl

theorem accRows_ld3 (w0 w1 w2 w3 w4 : Vec F S1x4096 .f32) (a : Vec F S8x4096 .f32) : (View.ld (accRows w0 w1 w2 w3 w4 a) (Rect.unit (s := S8x4096) ![3, 0] S1x4096.size inb_S8x4096_S1x4096_3_0)) = w3 := by
  funext x
  obtain ⟨p, q, rfl⟩ : ∃ p q, x = ix2 p q := ⟨x 0, x 1, eq_ix2 x⟩
  obtain rfl : p = 0 := Subsingleton.elim _ _
  show accRows w0 w1 w2 w3 w4 a _ = _
  unfold accRows
  have e0 : ((Rect.unit (s := S8x4096) ![3, 0] S1x4096.size inb_S8x4096_S1x4096_3_0).toLoadRect.idx (ix2 0 q) 0).val = 3 := rfl
  have e1 : ((Rect.unit (s := S8x4096) ![3, 0] S1x4096.size inb_S8x4096_S1x4096_3_0).toLoadRect.idx (ix2 0 q) 1) = q := Fin.ext (by show 0 + 1 * q.val = q.val; omega)
  simp only [e0, e1]; rfl

theorem accRows_ld4 (w0 w1 w2 w3 w4 : Vec F S1x4096 .f32) (a : Vec F S8x4096 .f32) : (View.ld (accRows w0 w1 w2 w3 w4 a) (Rect.unit (s := S8x4096) ![4, 0] S1x4096.size inb_S8x4096_S1x4096_4_0)) = w4 := by
  funext x
  obtain ⟨p, q, rfl⟩ : ∃ p q, x = ix2 p q := ⟨x 0, x 1, eq_ix2 x⟩
  obtain rfl : p = 0 := Subsingleton.elim _ _
  show accRows w0 w1 w2 w3 w4 a _ = _
  unfold accRows
  have e0 : ((Rect.unit (s := S8x4096) ![4, 0] S1x4096.size inb_S8x4096_S1x4096_4_0).toLoadRect.idx (ix2 0 q) 0).val = 4 := rfl
  have e1 : ((Rect.unit (s := S8x4096) ![4, 0] S1x4096.size inb_S8x4096_S1x4096_4_0).toLoadRect.idx (ix2 0 q) 1) = q := Fin.ext (by show 0 + 1 * q.val = q.val; omega)
  simp only [e0, e1]; rfl

theorem outOf_rows (w0 w1 w2 w3 w4 : Vec F S1x4096 .f32) (a : Vec F S8x4096 .f32) : outOf (accRows w0 w1 w2 w3 w4 a) = fun y =>
    if (y 0).val = 0 then k1_pay16 w0 w1 w3 w2 w4 else if (y 0).val = 1 then k1_pay12 w0 w1 else if (y 0).val = 2 then k1_pay14 w3 w2 else k1_pay15 w3 w4 := by
  unfold outOf
  rw [accRows_ld0, accRows_ld1, accRows_ld2, accRows_ld3, accRows_ld4]

end Cert.KernelIdeal.Run

end
-- ==== Proof.LossPieces.lean ====
module

public import proofs.«01_k».proof.Proof.LossStep
public import Idealize.ShloMosaic.Lib.Pipeline.ReadBack

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the three cases of the loss body leave, as the step functions -/

/-- A row read back over a store to another row, -/
theorem readCov_row_ne (v : View sig .tc .vmem S8x4096 .f32) (i j : ℕ) (hi : ∀ a, ![i, 0] a + ![1, 4096] a ≤ S8x4096.size a)
    (hj : ∀ a, ![j, 0] a + ![1, 4096] a ≤ S8x4096.size a) (w : (Rect.unit (s := S8x4096) ![i, 0] ![1, 4096] hi).shape.Idx → Elt F .f32)
    (L : List (View.Piece (Elt F) S8x4096 .f32)) (h : i ≠ j) :
    v.readCov (⟨Rect.unit (s := S8x4096) ![i, 0] ![1, 4096] hi, w⟩ :: L) (Rect.unit (s := S8x4096) ![j, 0] ![1, 4096] hj).toLoadRect
      = v.readCov L (Rect.unit (s := S8x4096) ![j, 0] ![1, 4096] hj).toLoadRect := by
  refine View.readCov_skip v _ w L _ ?_
  rcases Nat.lt_or_gt_of_ne h with h | h <;> simp [LoadRect.disj, Rect.unit, Rect.toLoadRect] <;> omega
/-- a row read back over the fill, -/
theorem readCov_row_fill (v : View sig .tc .vmem S8x4096 .f32) (j : ℕ) (hz : ∀ a, ![0, 0] a + ![8, 4096] a ≤ S8x4096.size a)
    (hj : ∀ a, ![j, 0] a + ![1, 4096] a ≤ S8x4096.size a) (Z : Vec F S8x4096 .f32) (L : List (View.Piece (Elt F) S8x4096 .f32)) :
    v.readCov (⟨Rect.unit (s := S8x4096) ![0, 0] ![8, 4096] hz, Z⟩ :: L) (Rect.unit (s := S8x4096) ![j, 0] ![1, 4096] hj).toLoadRect
      = View.ld Z (Rect.unit (s := S8x4096) ![j, 0] ![1, 4096] hj) :=
  View.readCov_fill v _ Z L _ (by decide)
/-- and a column over a store to the other column. -/
theorem readCov_col_ne (v : View sig .tc .vmem S256x8 .f32) (w : (Rect.unit (s := S256x8) ![0, 1] ![256, 1] inb_S256x8_S256x1_0_1).shape.Idx → Elt F .f32)
    (L : List (View.Piece (Elt F) S256x8 .f32)) :
    v.readCov (⟨Rect.unit (s := S256x8) ![0, 1] ![256, 1] inb_S256x8_S256x1_0_1, w⟩ :: L) (Rect.unit (s := S256x8) ![0, 0] ![256, 1] inb_S256x8_S256x1_0_0).toLoadRect
      = v.readCov L (Rect.unit (s := S256x8) ![0, 0] ![256, 1] inb_S256x8_S256x1_0_0).toLoadRect :=
  View.readCov_skip v _ w L _ (by rfl)

set_option maxHeartbeats 2000000 in
/-- The stores of a middle point are the five rows of the step. -/
theorem piecesB (c : Dev nD) (i : grid1.Coords) (arg1 : Memref sig .tc .vmem S4096x6 .f32) (harg1 : arg1.IsWhole) (arg2 : Memref sig .tc .vmem S4096x6 .f32) (harg2 : arg2.IsWhole) (arg3 : Memref sig .tc .vmem S4096 .i32) (harg3 : arg3.IsWhole) (arg4 : Memref sig .tc .vmem S4096 .i32) (harg4 : arg4.IsWhole) (arg5 : Memref sig .tc .vmem S8x128 .f32) (harg5 : arg5.IsWhole) (arg6 : Memref sig .tc .vmem S256x8 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S256x8 .f32) (harg9 : arg9.IsWhole) (arg10 : Memref sig .tc .vmem S8x3 .f32) (harg10 : arg10.IsWhole) (arg11 : Memref sig .tc .vmem S8x256 .f32) (harg11 : arg11.IsWhole) (arg12 : Memref sig .tc .vmem S8x1 .f32) (harg12 : arg12.IsWhole) (arg13 : Memref sig .tc .vmem S32x256 .f32) (harg13 : arg13.IsWhole) (arg14 : Memref sig .tc .vmem S32x1 .f32) (harg14 : arg14.IsWhole) (arg15 : Memref sig .tc .smem S4 .f32) (harg15 : arg15.IsWhole) (arg16 : Memref sig .tc .vmem S8x4096 .f32) (harg16 : arg16.IsWhole) (arg17 : Memref sig .tc .vmem S256x8 .f32) (harg17 : arg17.IsWhole) (hc0 : ¬cond1_0 i) (hc1 : ¬cond1_1 i)
    (x0 : Vec F S4096x6 .f32) (x1 : Vec F S4096x6 .f32) (x2 : Vec F S4096 .i32) (x3 : Vec F S4096 .i32) (x4 : Vec F S8x128 .f32) (x5 : Vec F S256x8 .f32) (x6 : Vec F S256x1 .f32) (x7 : Vec F S256x256 .f32) (x8 : Vec F S256x8 .f32) (x9 : Vec F S8x3 .f32) (x10 : Vec F S8x256 .f32) (x11 : Vec F S8x1 .f32) (x12 : Vec F S32x256 .f32) (x13 : Vec F S32x1 .f32) (xs0 : Vec F S8x4096 .f32) (xs1 : Vec F S256x8 .f32) :
    (lossRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).1 = rowPieces (row0Of x0 x2 x5 x6 x12 x13 (View.ld xs0 (Rect.unit (s := S8x4096) ![0, 0] S1x4096.size inb_S8x4096_S1x4096_0_0))) (row1Of x2 (View.ld xs0 (Rect.unit (s := S8x4096) ![1, 0] S1x4096.size inb_S8x4096_S1x4096_1_0))) (row2Of x1 x3 x9 (biasOf x0 x5 x6 x7 (View.ld xs1 (Rect.unit (s := S256x8) ![0, 0] S256x1.size inb_S256x8_S256x1_0_0)) (View.ld xs1 (Rect.unit (s := S256x8) ![0, 1] S256x1.size inb_S256x8_S256x1_0_1)) x10 x11) (View.ld xs0 (Rect.unit (s := S8x4096) ![2, 0] S1x4096.size inb_S8x4096_S1x4096_2_0))) (row3Of x3 (View.ld xs0 (Rect.unit (s := S8x4096) ![3, 0] S1x4096.size inb_S8x4096_S1x4096_3_0))) (row4Of x1 x3 x9 (biasOf x0 x5 x6 x7 (View.ld xs1 (Rect.unit (s := S256x8) ![0, 0] S256x1.size inb_S256x8_S256x1_0_0)) (View.ld xs1 (Rect.unit (s := S256x8) ![0, 1] S256x1.size inb_S256x8_S256x1_0_1)) x10 x11) (View.ld xs0 (Rect.unit (s := S8x4096) ![4, 0] S1x4096.size inb_S8x4096_S1x4096_4_0))) := by
  unfold lossRunB
  simp only [lossRunB.sl.r, lossRunB.sl.r_1, lossRunB.sl.r_2, lossRunB.sl.r_3, lossRunB.sl.r_4, lossRunB.sl.r_5, lossRunB.sl.r_6, lossRunB.sl.r_7, lossRunB.sl.r_8, lossRunB.sl.v114, lossRunB.sl.v119, lossRunB.sl.v125, lossRunB.sl.v130, View.readAt_eq_ld, Memref.IsWhole.read_unread, row0Of, row1Of, row2Of, row3Of, row4Of, biasOf, logitOf]
  try rfl

set_option maxHeartbeats 2000000 in
/-- The stores of the last point are the five rows of the step. -/
theorem piecesC (c : Dev nD) (i : grid1.Coords) (arg1 : Memref sig .tc .vmem S4096x6 .f32) (harg1 : arg1.IsWhole) (arg2 : Memref sig .tc .vmem S4096x6 .f32) (harg2 : arg2.IsWhole) (arg3 : Memref sig .tc .vmem S4096 .i32) (harg3 : arg3.IsWhole) (arg4 : Memref sig .tc .vmem S4096 .i32) (harg4 : arg4.IsWhole) (arg5 : Memref sig .tc .vmem S8x128 .f32) (harg5 : arg5.IsWhole) (arg6 : Memref sig .tc .vmem S256x8 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S256x8 .f32) (harg9 : arg9.IsWhole) (arg10 : Memref sig .tc .vmem S8x3 .f32) (harg10 : arg10.IsWhole) (arg11 : Memref sig .tc .vmem S8x256 .f32) (harg11 : arg11.IsWhole) (arg12 : Memref sig .tc .vmem S8x1 .f32) (harg12 : arg12.IsWhole) (arg13 : Memref sig .tc .vmem S32x256 .f32) (harg13 : arg13.IsWhole) (arg14 : Memref sig .tc .vmem S32x1 .f32) (harg14 : arg14.IsWhole) (arg15 : Memref sig .tc .smem S4 .f32) (harg15 : arg15.IsWhole) (arg16 : Memref sig .tc .vmem S8x4096 .f32) (harg16 : arg16.IsWhole) (arg17 : Memref sig .tc .vmem S256x8 .f32) (harg17 : arg17.IsWhole) (hc0 : ¬cond1_0 i) (hc1 : cond1_1 i)
    (x0 : Vec F S4096x6 .f32) (x1 : Vec F S4096x6 .f32) (x2 : Vec F S4096 .i32) (x3 : Vec F S4096 .i32) (x4 : Vec F S8x128 .f32) (x5 : Vec F S256x8 .f32) (x6 : Vec F S256x1 .f32) (x7 : Vec F S256x256 .f32) (x8 : Vec F S256x8 .f32) (x9 : Vec F S8x3 .f32) (x10 : Vec F S8x256 .f32) (x11 : Vec F S8x1 .f32) (x12 : Vec F S32x256 .f32) (x13 : Vec F S32x1 .f32) (xs0 : Vec F S8x4096 .f32) (xs1 : Vec F S256x8 .f32) :
    (lossRunC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).1 = rowPieces (row0Of x0 x2 x5 x6 x12 x13 (View.ld xs0 (Rect.unit (s := S8x4096) ![0, 0] S1x4096.size inb_S8x4096_S1x4096_0_0))) (row1Of x2 (View.ld xs0 (Rect.unit (s := S8x4096) ![1, 0] S1x4096.size inb_S8x4096_S1x4096_1_0))) (row2Of x1 x3 x9 (biasOf x0 x5 x6 x7 (View.ld xs1 (Rect.unit (s := S256x8) ![0, 0] S256x1.size inb_S256x8_S256x1_0_0)) (View.ld xs1 (Rect.unit (s := S256x8) ![0, 1] S256x1.size inb_S256x8_S256x1_0_1)) x10 x11) (View.ld xs0 (Rect.unit (s := S8x4096) ![2, 0] S1x4096.size inb_S8x4096_S1x4096_2_0))) (row3Of x3 (View.ld xs0 (Rect.unit (s := S8x4096) ![3, 0] S1x4096.size inb_S8x4096_S1x4096_3_0))) (row4Of x1 x3 x9 (biasOf x0 x5 x6 x7 (View.ld xs1 (Rect.unit (s := S256x8) ![0, 0] S256x1.size inb_S256x8_S256x1_0_0)) (View.ld xs1 (Rect.unit (s := S256x8) ![0, 1] S256x1.size inb_S256x8_S256x1_0_1)) x10 x11) (View.ld xs0 (Rect.unit (s := S8x4096) ![4, 0] S1x4096.size inb_S8x4096_S1x4096_4_0))) := by
  unfold lossRunC
  simp only [lossRunC.sl.r, lossRunC.sl.r_1, lossRunC.sl.r_2, lossRunC.sl.r_3, lossRunC.sl.r_4, lossRunC.sl.r_5, lossRunC.sl.r_6, lossRunC.sl.r_7, lossRunC.sl.r_8, lossRunC.sl.v114, lossRunC.sl.v119, lossRunC.sl.v125, lossRunC.sl.v130, lossRunC.sl.HS0_5, View.readAt_eq_ld, Memref.IsWhole.read_unread, row0Of, row1Of, row2Of, row3Of, row4Of, biasOf, logitOf]
  try rfl

set_option maxHeartbeats 2000000 in
/-- The stores of the first point are the five rows of the step over a zeroed accumulator, with the columns just computed. -/
theorem piecesA (c : Dev nD) (i : grid1.Coords) (arg1 : Memref sig .tc .vmem S4096x6 .f32) (harg1 : arg1.IsWhole) (arg2 : Memref sig .tc .vmem S4096x6 .f32) (harg2 : arg2.IsWhole) (arg3 : Memref sig .tc .vmem S4096 .i32) (harg3 : arg3.IsWhole) (arg4 : Memref sig .tc .vmem S4096 .i32) (harg4 : arg4.IsWhole) (arg5 : Memref sig .tc .vmem S8x128 .f32) (harg5 : arg5.IsWhole) (arg6 : Memref sig .tc .vmem S256x8 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S256x8 .f32) (harg9 : arg9.IsWhole) (arg10 : Memref sig .tc .vmem S8x3 .f32) (harg10 : arg10.IsWhole) (arg11 : Memref sig .tc .vmem S8x256 .f32) (harg11 : arg11.IsWhole) (arg12 : Memref sig .tc .vmem S8x1 .f32) (harg12 : arg12.IsWhole) (arg13 : Memref sig .tc .vmem S32x256 .f32) (harg13 : arg13.IsWhole) (arg14 : Memref sig .tc .vmem S32x1 .f32) (harg14 : arg14.IsWhole) (arg15 : Memref sig .tc .smem S4 .f32) (harg15 : arg15.IsWhole) (arg16 : Memref sig .tc .vmem S8x4096 .f32) (harg16 : arg16.IsWhole) (arg17 : Memref sig .tc .vmem S256x8 .f32) (harg17 : arg17.IsWhole) (hc0 : cond1_0 i) (hc1 : ¬cond1_1 i)
    (x0 : Vec F S4096x6 .f32) (x1 : Vec F S4096x6 .f32) (x2 : Vec F S4096 .i32) (x3 : Vec F S4096 .i32) (x4 : Vec F S8x128 .f32) (x5 : Vec F S256x8 .f32) (x6 : Vec F S256x1 .f32) (x7 : Vec F S256x256 .f32) (x8 : Vec F S256x8 .f32) (x9 : Vec F S8x3 .f32) (x10 : Vec F S8x256 .f32) (x11 : Vec F S8x1 .f32) (x12 : Vec F S32x256 .f32) (x13 : Vec F S32x1 .f32) (xs1 : Vec F S256x8 .f32) :
    (lossRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs1).1 = rowPieces (row0Of x0 x2 x5 x6 x12 x13 (View.ld (k1_pay5 (F := F)) (Rect.unit (s := S8x4096) ![0, 0] S1x4096.size inb_S8x4096_S1x4096_0_0))) (row1Of x2 (View.ld (k1_pay5 (F := F)) (Rect.unit (s := S8x4096) ![1, 0] S1x4096.size inb_S8x4096_S1x4096_1_0))) (row2Of x1 x3 x9 (biasOf x0 x5 x6 x7 (aColOf x4 x5 x6 x7 x8) (bColOf x4 x5 x6 x7 x8) x10 x11) (View.ld (k1_pay5 (F := F)) (Rect.unit (s := S8x4096) ![2, 0] S1x4096.size inb_S8x4096_S1x4096_2_0))) (row3Of x3 (View.ld (k1_pay5 (F := F)) (Rect.unit (s := S8x4096) ![3, 0] S1x4096.size inb_S8x4096_S1x4096_3_0))) (row4Of x1 x3 x9 (biasOf x0 x5 x6 x7 (aColOf x4 x5 x6 x7 x8) (bColOf x4 x5 x6 x7 x8) x10 x11) (View.ld (k1_pay5 (F := F)) (Rect.unit (s := S8x4096) ![4, 0] S1x4096.size inb_S8x4096_S1x4096_4_0)))
      ++ [⟨Rect.unit (s := S8x4096) ![0, 0] S8x4096.size inb_S8x4096_S8x4096_0_0, k1_pay5⟩] := by
  unfold lossRunA
  simp only [lossRunA.sl.r, lossRunA.sl.r_1, lossRunA.sl.r_2, lossRunA.sl.r_3, lossRunA.sl.r_4, lossRunA.sl.r_5, lossRunA.sl.r_6, lossRunA.sl.r_7, lossRunA.sl.r_8, lossRunA.sl.r_9, lossRunA.sl.r_10, lossRunA.sl.r_11, lossRunA.sl.r_12, lossRunA.sl.r_13, lossRunA.sl.r_14, lossRunA.sl.v14, lossRunA.sl.v17, lossRunA.sl.v109, lossRunA.sl.v114, lossRunA.sl.v119, lossRunA.sl.v125, lossRunA.sl.v130, lossRunA.sl.HS0_1, lossRunA.sl.HS0_2, lossRunA.sl.HS0_3, lossRunA.sl.HS0_4, lossRunA.sl.HS0_5, lossRunA.sl.HS1_2, View.readAt_eq_ld, Memref.IsWhole.read_unread, row0Of, row1Of, row2Of, row3Of, row4Of, biasOf, logitOf, aColOf, bColOf, ↓readCov_row_ne _ _ _ _ _ _ _ (by decide : (0:ℕ) ≠ 1), ↓readCov_row_ne _ _ _ _ _ _ _ (by decide : (0:ℕ) ≠ 2), ↓readCov_row_ne _ _ _ _ _ _ _ (by decide : (1:ℕ) ≠ 2), ↓readCov_row_ne _ _ _ _ _ _ _ (by decide : (0:ℕ) ≠ 3), ↓readCov_row_ne _ _ _ _ _ _ _ (by decide : (1:ℕ) ≠ 3), ↓readCov_row_ne _ _ _ _ _ _ _ (by decide : (2:ℕ) ≠ 3), ↓readCov_row_ne _ _ _ _ _ _ _ (by decide : (0:ℕ) ≠ 4), ↓readCov_row_ne _ _ _ _ _ _ _ (by decide : (1:ℕ) ≠ 4), ↓readCov_row_ne _ _ _ _ _ _ _ (by decide : (2:ℕ) ≠ 4), ↓readCov_row_ne _ _ _ _ _ _ _ (by decide : (3:ℕ) ≠ 4), readCov_col_ne, View.readCov_cons_toLoadRect, readCov_row_fill, List.cons_append, List.nil_append]
  try rfl

theorem accB_read (c : Dev nD) (i : grid1.Coords) (arg1 : Memref sig .tc .vmem S4096x6 .f32) (harg1 : arg1.IsWhole) (arg2 : Memref sig .tc .vmem S4096x6 .f32) (harg2 : arg2.IsWhole) (arg3 : Memref sig .tc .vmem S4096 .i32) (harg3 : arg3.IsWhole) (arg4 : Memref sig .tc .vmem S4096 .i32) (harg4 : arg4.IsWhole) (arg5 : Memref sig .tc .vmem S8x128 .f32) (harg5 : arg5.IsWhole) (arg6 : Memref sig .tc .vmem S256x8 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S256x8 .f32) (harg9 : arg9.IsWhole) (arg10 : Memref sig .tc .vmem S8x3 .f32) (harg10 : arg10.IsWhole) (arg11 : Memref sig .tc .vmem S8x256 .f32) (harg11 : arg11.IsWhole) (arg12 : Memref sig .tc .vmem S8x1 .f32) (harg12 : arg12.IsWhole) (arg13 : Memref sig .tc .vmem S32x256 .f32) (harg13 : arg13.IsWhole) (arg14 : Memref sig .tc .vmem S32x1 .f32) (harg14 : arg14.IsWhole) (arg15 : Memref sig .tc .smem S4 .f32) (harg15 : arg15.IsWhole) (arg16 : Memref sig .tc .vmem S8x4096 .f32) (harg16 : arg16.IsWhole) (arg17 : Memref sig .tc .vmem S256x8 .f32) (harg17 : arg17.IsWhole) (hc0 : ¬cond1_0 i) (hc1 : ¬cond1_1 i)
    (x0 : Vec F S4096x6 .f32) (x1 : Vec F S4096x6 .f32) (x2 : Vec F S4096 .i32) (x3 : Vec F S4096 .i32) (x4 : Vec F S8x128 .f32) (x5 : Vec F S256x8 .f32) (x6 : Vec F S256x1 .f32) (x7 : Vec F S256x256 .f32) (x8 : Vec F S256x8 .f32) (x9 : Vec F S8x3 .f32) (x10 : Vec F S8x256 .f32) (x11 : Vec F S8x1 .f32) (x12 : Vec F S32x256 .f32) (x13 : Vec F S32x1 .f32) (xs0 : Vec F S8x4096 .f32) (xs1 : Vec F S256x8 .f32) :
    arg16.view.read (Elt F) (arg16.view.writes (Elt F) (harg16.unread xs0) (lossRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).1) = accNext x0 x1 x2 x3 x5 x6 x7 x9 x10 x11 x12 x13 (View.ld xs1 (Rect.unit (s := S256x8) ![0, 0] S256x1.size inb_S256x8_S256x1_0_0)) (View.ld xs1 (Rect.unit (s := S256x8) ![0, 1] S256x1.size inb_S256x8_S256x1_0_1)) xs0 := by
  rw [piecesB]
  funext y
  exact read_rowPieces _ _ _ _ _ _ _ xs0 y (Or.inr (by rw [Memref.IsWhole.read_unread]))
theorem accC_read (c : Dev nD) (i : grid1.Coords) (arg1 : Memref sig .tc .vmem S4096x6 .f32) (harg1 : arg1.IsWhole) (arg2 : Memref sig .tc .vmem S4096x6 .f32) (harg2 : arg2.IsWhole) (arg3 : Memref sig .tc .vmem S4096 .i32) (harg3 : arg3.IsWhole) (arg4 : Memref sig .tc .vmem S4096 .i32) (harg4 : arg4.IsWhole) (arg5 : Memref sig .tc .vmem S8x128 .f32) (harg5 : arg5.IsWhole) (arg6 : Memref sig .tc .vmem S256x8 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S256x8 .f32) (harg9 : arg9.IsWhole) (arg10 : Memref sig .tc .vmem S8x3 .f32) (harg10 : arg10.IsWhole) (arg11 : Memref sig .tc .vmem S8x256 .f32) (harg11 : arg11.IsWhole) (arg12 : Memref sig .tc .vmem S8x1 .f32) (harg12 : arg12.IsWhole) (arg13 : Memref sig .tc .vmem S32x256 .f32) (harg13 : arg13.IsWhole) (arg14 : Memref sig .tc .vmem S32x1 .f32) (harg14 : arg14.IsWhole) (arg15 : Memref sig .tc .smem S4 .f32) (harg15 : arg15.IsWhole) (arg16 : Memref sig .tc .vmem S8x4096 .f32) (harg16 : arg16.IsWhole) (arg17 : Memref sig .tc .vmem S256x8 .f32) (harg17 : arg17.IsWhole) (hc0 : ¬cond1_0 i) (hc1 : cond1_1 i)
    (x0 : Vec F S4096x6 .f32) (x1 : Vec F S4096x6 .f32) (x2 : Vec F S4096 .i32) (x3 : Vec F S4096 .i32) (x4 : Vec F S8x128 .f32) (x5 : Vec F S256x8 .f32) (x6 : Vec F S256x1 .f32) (x7 : Vec F S256x256 .f32) (x8 : Vec F S256x8 .f32) (x9 : Vec F S8x3 .f32) (x10 : Vec F S8x256 .f32) (x11 : Vec F S8x1 .f32) (x12 : Vec F S32x256 .f32) (x13 : Vec F S32x1 .f32) (xs0 : Vec F S8x4096 .f32) (xs1 : Vec F S256x8 .f32) :
    arg16.view.read (Elt F) (arg16.view.writes (Elt F) (harg16.unread xs0) (lossRunC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).1) = accNext x0 x1 x2 x3 x5 x6 x7 x9 x10 x11 x12 x13 (View.ld xs1 (Rect.unit (s := S256x8) ![0, 0] S256x1.size inb_S256x8_S256x1_0_0)) (View.ld xs1 (Rect.unit (s := S256x8) ![0, 1] S256x1.size inb_S256x8_S256x1_0_1)) xs0 := by
  rw [piecesC]
  funext y
  exact read_rowPieces _ _ _ _ _ _ _ xs0 y (Or.inr (by rw [Memref.IsWhole.read_unread]))
theorem accA_read (c : Dev nD) (i : grid1.Coords) (arg1 : Memref sig .tc .vmem S4096x6 .f32) (harg1 : arg1.IsWhole) (arg2 : Memref sig .tc .vmem S4096x6 .f32) (harg2 : arg2.IsWhole) (arg3 : Memref sig .tc .vmem S4096 .i32) (harg3 : arg3.IsWhole) (arg4 : Memref sig .tc .vmem S4096 .i32) (harg4 : arg4.IsWhole) (arg5 : Memref sig .tc .vmem S8x128 .f32) (harg5 : arg5.IsWhole) (arg6 : Memref sig .tc .vmem S256x8 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S256x8 .f32) (harg9 : arg9.IsWhole) (arg10 : Memref sig .tc .vmem S8x3 .f32) (harg10 : arg10.IsWhole) (arg11 : Memref sig .tc .vmem S8x256 .f32) (harg11 : arg11.IsWhole) (arg12 : Memref sig .tc .vmem S8x1 .f32) (harg12 : arg12.IsWhole) (arg13 : Memref sig .tc .vmem S32x256 .f32) (harg13 : arg13.IsWhole) (arg14 : Memref sig .tc .vmem S32x1 .f32) (harg14 : arg14.IsWhole) (arg15 : Memref sig .tc .smem S4 .f32) (harg15 : arg15.IsWhole) (arg16 : Memref sig .tc .vmem S8x4096 .f32) (harg16 : arg16.IsWhole) (arg17 : Memref sig .tc .vmem S256x8 .f32) (harg17 : arg17.IsWhole) (hc0 : cond1_0 i) (hc1 : ¬cond1_1 i)
    (x0 : Vec F S4096x6 .f32) (x1 : Vec F S4096x6 .f32) (x2 : Vec F S4096 .i32) (x3 : Vec F S4096 .i32) (x4 : Vec F S8x128 .f32) (x5 : Vec F S256x8 .f32) (x6 : Vec F S256x1 .f32) (x7 : Vec F S256x256 .f32) (x8 : Vec F S256x8 .f32) (x9 : Vec F S8x3 .f32) (x10 : Vec F S8x256 .f32) (x11 : Vec F S8x1 .f32) (x12 : Vec F S32x256 .f32) (x13 : Vec F S32x1 .f32) (xs1 : Vec F S256x8 .f32) (f : arg16.view.ty.Contents (Elt F)) :
    arg16.view.read (Elt F) (arg16.view.writes (Elt F) f (lossRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs1).1) = accNext x0 x1 x2 x3 x5 x6 x7 x9 x10 x11 x12 x13 (aColOf x4 x5 x6 x7 x8) (bColOf x4 x5 x6 x7 x8) (k1_pay5 (F := F)) := by
  rw [piecesA, View.writes_append]
  funext y
  exact read_rowPieces _ _ _ _ _ _ _ k1_pay5 y (Or.inr (read_whole_piece _ _ _ y))
set_option maxHeartbeats 2000000 in
theorem piecesAB (c : Dev nD) (i : grid1.Coords) (arg1 : Memref sig .tc .vmem S4096x6 .f32) (harg1 : arg1.IsWhole) (arg2 : Memref sig .tc .vmem S4096x6 .f32) (harg2 : arg2.IsWhole) (arg3 : Memref sig .tc .vmem S4096 .i32) (harg3 : arg3.IsWhole) (arg4 : Memref sig .tc .vmem S4096 .i32) (harg4 : arg4.IsWhole) (arg5 : Memref sig .tc .vmem S8x128 .f32) (harg5 : arg5.IsWhole) (arg6 : Memref sig .tc .vmem S256x8 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S256x8 .f32) (harg9 : arg9.IsWhole) (arg10 : Memref sig .tc .vmem S8x3 .f32) (harg10 : arg10.IsWhole) (arg11 : Memref sig .tc .vmem S8x256 .f32) (harg11 : arg11.IsWhole) (arg12 : Memref sig .tc .vmem S8x1 .f32) (harg12 : arg12.IsWhole) (arg13 : Memref sig .tc .vmem S32x256 .f32) (harg13 : arg13.IsWhole) (arg14 : Memref sig .tc .vmem S32x1 .f32) (harg14 : arg14.IsWhole) (arg15 : Memref sig .tc .smem S4 .f32) (harg15 : arg15.IsWhole) (arg16 : Memref sig .tc .vmem S8x4096 .f32) (harg16 : arg16.IsWhole) (arg17 : Memref sig .tc .vmem S256x8 .f32) (harg17 : arg17.IsWhole) (hc0 : cond1_0 i) (hc1 : ¬cond1_1 i)
    (x0 : Vec F S4096x6 .f32) (x1 : Vec F S4096x6 .f32) (x2 : Vec F S4096 .i32) (x3 : Vec F S4096 .i32) (x4 : Vec F S8x128 .f32) (x5 : Vec F S256x8 .f32) (x6 : Vec F S256x1 .f32) (x7 : Vec F S256x256 .f32) (x8 : Vec F S256x8 .f32) (x9 : Vec F S8x3 .f32) (x10 : Vec F S8x256 .f32) (x11 : Vec F S8x1 .f32) (x12 : Vec F S32x256 .f32) (x13 : Vec F S32x1 .f32) (xs1 : Vec F S256x8 .f32) :
    (lossRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs1).2.1 = [⟨Rect.unit (s := S256x8) ![0, 1] S256x1.size inb_S256x8_S256x1_0_1, bColOf x4 x5 x6 x7 x8⟩, ⟨Rect.unit (s := S256x8) ![0, 0] S256x1.size inb_S256x8_S256x1_0_0, aColOf x4 x5 x6 x7 x8⟩] := by
  unfold lossRunA
  simp only [lossRunA.sl.r, lossRunA.sl.r_1, lossRunA.sl.r_2, lossRunA.sl.r_3, lossRunA.sl.r_4, lossRunA.sl.r_5, lossRunA.sl.r_6, lossRunA.sl.r_7, lossRunA.sl.r_8, lossRunA.sl.r_9, lossRunA.sl.r_10, lossRunA.sl.r_11, lossRunA.sl.r_12, lossRunA.sl.r_13, lossRunA.sl.r_14, lossRunA.sl.v14, lossRunA.sl.v17, lossRunA.sl.v109, lossRunA.sl.v114, lossRunA.sl.v119, lossRunA.sl.v125, lossRunA.sl.v130, lossRunA.sl.HS0_1, lossRunA.sl.HS0_2, lossRunA.sl.HS0_3, lossRunA.sl.HS0_4, lossRunA.sl.HS0_5, lossRunA.sl.HS1_2, View.readAt_eq_ld, Memref.IsWhole.read_unread, aColOf, bColOf]
theorem abA_col0 (c : Dev nD) (i : grid1.Coords) (arg1 : Memref sig .tc .vmem S4096x6 .f32) (harg1 : arg1.IsWhole) (arg2 : Memref sig .tc .vmem S4096x6 .f32) (harg2 : arg2.IsWhole) (arg3 : Memref sig .tc .vmem S4096 .i32) (harg3 : arg3.IsWhole) (arg4 : Memref sig .tc .vmem S4096 .i32) (harg4 : arg4.IsWhole) (arg5 : Memref sig .tc .vmem S8x128 .f32) (harg5 : arg5.IsWhole) (arg6 : Memref sig .tc .vmem S256x8 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S256x8 .f32) (harg9 : arg9.IsWhole) (arg10 : Memref sig .tc .vmem S8x3 .f32) (harg10 : arg10.IsWhole) (arg11 : Memref sig .tc .vmem S8x256 .f32) (harg11 : arg11.IsWhole) (arg12 : Memref sig .tc .vmem S8x1 .f32) (harg12 : arg12.IsWhole) (arg13 : Memref sig .tc .vmem S32x256 .f32) (harg13 : arg13.IsWhole) (arg14 : Memref sig .tc .vmem S32x1 .f32) (harg14 : arg14.IsWhole) (arg15 : Memref sig .tc .smem S4 .f32) (harg15 : arg15.IsWhole) (arg16 : Memref sig .tc .vmem S8x4096 .f32) (harg16 : arg16.IsWhole) (arg17 : Memref sig .tc .vmem S256x8 .f32) (harg17 : arg17.IsWhole) (hc0 : cond1_0 i) (hc1 : ¬cond1_1 i)
    (x0 : Vec F S4096x6 .f32) (x1 : Vec F S4096x6 .f32) (x2 : Vec F S4096 .i32) (x3 : Vec F S4096 .i32) (x4 : Vec F S8x128 .f32) (x5 : Vec F S256x8 .f32) (x6 : Vec F S256x1 .f32) (x7 : Vec F S256x256 .f32) (x8 : Vec F S256x8 .f32) (x9 : Vec F S8x3 .f32) (x10 : Vec F S8x256 .f32) (x11 : Vec F S8x1 .f32) (x12 : Vec F S32x256 .f32) (x13 : Vec F S32x1 .f32) (xs1 : Vec F S256x8 .f32) :
    (View.ld (arg17.view.read (Elt F) (arg17.view.writes (Elt F) (harg17.unread xs1) (lossRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs1).2.1)) (Rect.unit (s := S256x8) ![0, 0] S256x1.size inb_S256x8_S256x1_0_0)) = aColOf x4 x5 x6 x7 x8 := by
  rw [piecesAB]
  funext x
  obtain ⟨p, q, rfl⟩ : ∃ p q, x = ValueIdx.ix2 p q := ⟨x 0, x 1, ValueIdx.eq_ix2 x⟩
  obtain rfl : q = 0 := Subsingleton.elim _ _
  refine (View.read_writes_cons_unit_of_not_mem _ _ _ _ _ _ rfl (1 : Fin 2) (Or.inl (by show 0 + 1 * 0 < 1; omega))).trans ?_
  exact View.read_writes_cons_unit_of_mem _ _ _ _ _ _ _ rfl (Fin.forall_fin_two.mpr ⟨by show 0 + 1 * p.val = 0 + p.val; omega, rfl⟩)
theorem abA_col1 (c : Dev nD) (i : grid1.Coords) (arg1 : Memref sig .tc .vmem S4096x6 .f32) (harg1 : arg1.IsWhole) (arg2 : Memref sig .tc .vmem S4096x6 .f32) (harg2 : arg2.IsWhole) (arg3 : Memref sig .tc .vmem S4096 .i32) (harg3 : arg3.IsWhole) (arg4 : Memref sig .tc .vmem S4096 .i32) (harg4 : arg4.IsWhole) (arg5 : Memref sig .tc .vmem S8x128 .f32) (harg5 : arg5.IsWhole) (arg6 : Memref sig .tc .vmem S256x8 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S256x8 .f32) (harg9 : arg9.IsWhole) (arg10 : Memref sig .tc .vmem S8x3 .f32) (harg10 : arg10.IsWhole) (arg11 : Memref sig .tc .vmem S8x256 .f32) (harg11 : arg11.IsWhole) (arg12 : Memref sig .tc .vmem S8x1 .f32) (harg12 : arg12.IsWhole) (arg13 : Memref sig .tc .vmem S32x256 .f32) (harg13 : arg13.IsWhole) (arg14 : Memref sig .tc .vmem S32x1 .f32) (harg14 : arg14.IsWhole) (arg15 : Memref sig .tc .smem S4 .f32) (harg15 : arg15.IsWhole) (arg16 : Memref sig .tc .vmem S8x4096 .f32) (harg16 : arg16.IsWhole) (arg17 : Memref sig .tc .vmem S256x8 .f32) (harg17 : arg17.IsWhole) (hc0 : cond1_0 i) (hc1 : ¬cond1_1 i)
    (x0 : Vec F S4096x6 .f32) (x1 : Vec F S4096x6 .f32) (x2 : Vec F S4096 .i32) (x3 : Vec F S4096 .i32) (x4 : Vec F S8x128 .f32) (x5 : Vec F S256x8 .f32) (x6 : Vec F S256x1 .f32) (x7 : Vec F S256x256 .f32) (x8 : Vec F S256x8 .f32) (x9 : Vec F S8x3 .f32) (x10 : Vec F S8x256 .f32) (x11 : Vec F S8x1 .f32) (x12 : Vec F S32x256 .f32) (x13 : Vec F S32x1 .f32) (xs1 : Vec F S256x8 .f32) :
    (View.ld (arg17.view.read (Elt F) (arg17.view.writes (Elt F) (harg17.unread xs1) (lossRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs1).2.1)) (Rect.unit (s := S256x8) ![0, 1] S256x1.size inb_S256x8_S256x1_0_1)) = bColOf x4 x5 x6 x7 x8 := by
  rw [piecesAB]
  funext x
  obtain ⟨p, q, rfl⟩ : ∃ p q, x = ValueIdx.ix2 p q := ⟨x 0, x 1, ValueIdx.eq_ix2 x⟩
  obtain rfl : q = 0 := Subsingleton.elim _ _
  exact View.read_writes_cons_unit_of_mem _ _ _ _ _ _ _ rfl (Fin.forall_fin_two.mpr ⟨by show 0 + 1 * p.val = 0 + p.val; omega, rfl⟩)
set_option maxHeartbeats 2000000 in
theorem outC_read (c : Dev nD) (i : grid1.Coords) (arg1 : Memref sig .tc .vmem S4096x6 .f32) (harg1 : arg1.IsWhole) (arg2 : Memref sig .tc .vmem S4096x6 .f32) (harg2 : arg2.IsWhole) (arg3 : Memref sig .tc .vmem S4096 .i32) (harg3 : arg3.IsWhole) (arg4 : Memref sig .tc .vmem S4096 .i32) (harg4 : arg4.IsWhole) (arg5 : Memref sig .tc .vmem S8x128 .f32) (harg5 : arg5.IsWhole) (arg6 : Memref sig .tc .vmem S256x8 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S256x8 .f32) (harg9 : arg9.IsWhole) (arg10 : Memref sig .tc .vmem S8x3 .f32) (harg10 : arg10.IsWhole) (arg11 : Memref sig .tc .vmem S8x256 .f32) (harg11 : arg11.IsWhole) (arg12 : Memref sig .tc .vmem S8x1 .f32) (harg12 : arg12.IsWhole) (arg13 : Memref sig .tc .vmem S32x256 .f32) (harg13 : arg13.IsWhole) (arg14 : Memref sig .tc .vmem S32x1 .f32) (harg14 : arg14.IsWhole) (arg15 : Memref sig .tc .smem S4 .f32) (harg15 : arg15.IsWhole) (arg16 : Memref sig .tc .vmem S8x4096 .f32) (harg16 : arg16.IsWhole) (arg17 : Memref sig .tc .vmem S256x8 .f32) (harg17 : arg17.IsWhole) (hc0 : ¬cond1_0 i) (hc1 : cond1_1 i)
    (x0 : Vec F S4096x6 .f32) (x1 : Vec F S4096x6 .f32) (x2 : Vec F S4096 .i32) (x3 : Vec F S4096 .i32) (x4 : Vec F S8x128 .f32) (x5 : Vec F S256x8 .f32) (x6 : Vec F S256x1 .f32) (x7 : Vec F S256x256 .f32) (x8 : Vec F S256x8 .f32) (x9 : Vec F S8x3 .f32) (x10 : Vec F S8x256 .f32) (x11 : Vec F S8x1 .f32) (x12 : Vec F S32x256 .f32) (x13 : Vec F S32x1 .f32) (xs0 : Vec F S8x4096 .f32) (xs1 : Vec F S256x8 .f32) (f : arg15.view.ty.Contents (Elt F)) :
    arg15.view.read (Elt F) (arg15.view.writes (Elt F) f (lossRunC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1).2.1) = outOf (accNext x0 x1 x2 x3 x5 x6 x7 x9 x10 x11 x12 x13 (View.ld xs1 (Rect.unit (s := S256x8) ![0, 0] S256x1.size inb_S256x8_S256x1_0_0)) (View.ld xs1 (Rect.unit (s := S256x8) ![0, 1] S256x1.size inb_S256x8_S256x1_0_1)) xs0) := by
  have h5 : (lossRunC.sl.HS0_5 c arg1 harg1 arg2 harg2 arg3 harg3 arg4 harg4 arg6 harg6 arg7 harg7 arg8 harg8 arg10 harg10 arg11
    harg11 arg12 harg12 arg13 harg13 arg14 harg14 arg16 harg16 arg17 harg17 x0 x1 x2 x3 x5 x6 x7 x9 x10 x11 x12 x13 xs0 xs1) = rowPieces (row0Of x0 x2 x5 x6 x12 x13 (View.ld xs0 (Rect.unit (s := S8x4096) ![0, 0] S1x4096.size inb_S8x4096_S1x4096_0_0))) (row1Of x2 (View.ld xs0 (Rect.unit (s := S8x4096) ![1, 0] S1x4096.size inb_S8x4096_S1x4096_1_0))) (row2Of x1 x3 x9 (biasOf x0 x5 x6 x7 (View.ld xs1 (Rect.unit (s := S256x8) ![0, 0] S256x1.size inb_S256x8_S256x1_0_0)) (View.ld xs1 (Rect.unit (s := S256x8) ![0, 1] S256x1.size inb_S256x8_S256x1_0_1)) x10 x11) (View.ld xs0 (Rect.unit (s := S8x4096) ![2, 0] S1x4096.size inb_S8x4096_S1x4096_2_0))) (row3Of x3 (View.ld xs0 (Rect.unit (s := S8x4096) ![3, 0] S1x4096.size inb_S8x4096_S1x4096_3_0))) (row4Of x1 x3 x9 (biasOf x0 x5 x6 x7 (View.ld xs1 (Rect.unit (s := S256x8) ![0, 0] S256x1.size inb_S256x8_S256x1_0_0)) (View.ld xs1 (Rect.unit (s := S256x8) ![0, 1] S256x1.size inb_S256x8_S256x1_0_1)) x10 x11) (View.ld xs0 (Rect.unit (s := S8x4096) ![4, 0] S1x4096.size inb_S8x4096_S1x4096_4_0))) :=
    piecesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 xs1
  unfold lossRunC accNext
  rw [outOf_rows]
  funext y
  simp only [View.read_writes_cons_cell, lossRunC.sl.r_11, lossRunC.sl.r_12, lossRunC.sl.v139, lossRunC.sl.v145, lossRunC.sl.v153, lossRunC.sl.v160, lossRunC.sl.v167, h5, rowPieces,
    ↓readCov_row_ne _ _ _ _ _ _ _ (by decide : (1:ℕ) ≠ 0), ↓readCov_row_ne _ _ _ _ _ _ _ (by decide : (2:ℕ) ≠ 0), ↓readCov_row_ne _ _ _ _ _ _ _ (by decide : (3:ℕ) ≠ 0), ↓readCov_row_ne _ _ _ _ _ _ _ (by decide : (4:ℕ) ≠ 0), ↓readCov_row_ne _ _ _ _ _ _ _ (by decide : (2:ℕ) ≠ 1), ↓readCov_row_ne _ _ _ _ _ _ _ (by decide : (3:ℕ) ≠ 1), ↓readCov_row_ne _ _ _ _ _ _ _ (by decide : (4:ℕ) ≠ 1), ↓readCov_row_ne _ _ _ _ _ _ _ (by decide : (3:ℕ) ≠ 2), ↓readCov_row_ne _ _ _ _ _ _ _ (by decide : (4:ℕ) ≠ 2), ↓readCov_row_ne _ _ _ _ _ _ _ (by decide : (4:ℕ) ≠ 3), View.readCov_cons_toLoadRect]
  have hy : (y 0).val < 4 := (y 0).isLt
  generalize (y 0).val = n at hy ⊢
  interval_cases n <;> rfl

end Cert.KernelIdeal.Run

end
-- ==== Proof.LossRegion.lean ====
module

public import proofs.«01_k».proof.Proof.LossPieces

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a region is entered: the parameter each region's half is stated at
variable (V : (c : Dev nD) → (b : Ref sig .tc) → Buf (Elt F) ((c : Thread nD τ).loc b))

/-! ## The loss call's blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- The first point. -/
abbrev pt0 : Fin cfg1.N := ⟨0, by have : cfg1.N = 64 := N_1; omega⟩
/-- The two coefficient columns, computed at the first point and kept. -/
def acAt (c : Dev nD) : Vec F S256x1 .f32 := aColOf (iblk1 V c 4 pt0) (iblk1 V c 5 pt0) (iblk1 V c 6 pt0) (iblk1 V c 7 pt0) (iblk1 V c 8 pt0)
def bcAt (c : Dev nD) : Vec F S256x1 .f32 := bColOf (iblk1 V c 4 pt0) (iblk1 V c 5 pt0) (iblk1 V c 6 pt0) (iblk1 V c 7 pt0) (iblk1 V c 8 pt0)
/-- The accumulator after the body at position `n`. -/
def accAt (c : Dev nD) : (n : ℕ) → n < cfg1.N → Vec F S8x4096 .f32
  | 0, hn => accNext (iblk1 V c 0 ⟨0, hn⟩) (iblk1 V c 1 ⟨0, hn⟩) (iblk1 V c 2 ⟨0, hn⟩) (iblk1 V c 3 ⟨0, hn⟩) (iblk1 V c 5 ⟨0, hn⟩) (iblk1 V c 6 ⟨0, hn⟩) (iblk1 V c 7 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (acAt V c) (bcAt V c) k1_pay5
  | n + 1, hn => accNext (iblk1 V c 0 ⟨n + 1, hn⟩) (iblk1 V c 1 ⟨n + 1, hn⟩) (iblk1 V c 2 ⟨n + 1, hn⟩) (iblk1 V c 3 ⟨n + 1, hn⟩) (iblk1 V c 5 ⟨n + 1, hn⟩) (iblk1 V c 6 ⟨n + 1, hn⟩) (iblk1 V c 7 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (acAt V c) (bcAt V c) (accAt c n (Nat.lt_of_succ_lt hn))
theorem accAt_first (c : Dev nD) (t : Fin cfg1.N) (h0 : t.val = 0) :
    accAt V c t.val t.isLt = accNext (iblk1 V c 0 t) (iblk1 V c 1 t) (iblk1 V c 2 t) (iblk1 V c 3 t) (iblk1 V c 5 t) (iblk1 V c 6 t) (iblk1 V c 7 t) (iblk1 V c 9 t) (iblk1 V c 10 t) (iblk1 V c 11 t) (iblk1 V c 12 t) (iblk1 V c 13 t) (acAt V c) (bcAt V c) k1_pay5 := by
  obtain ⟨n, hn⟩ := t
  cases n with
  | zero => rfl
  | succ n => exact absurd h0 (Nat.succ_ne_zero n)
theorem accAt_later (c : Dev nD) (t : Fin cfg1.N) (h0 : t.val ≠ 0) :
    accAt V c t.val t.isLt = accNext (iblk1 V c 0 t) (iblk1 V c 1 t) (iblk1 V c 2 t) (iblk1 V c 3 t) (iblk1 V c 5 t) (iblk1 V c 6 t) (iblk1 V c 7 t) (iblk1 V c 9 t) (iblk1 V c 10 t) (iblk1 V c 11 t) (iblk1 V c 12 t) (iblk1 V c 13 t) (acAt V c) (bcAt V c) (accAt V c (t.val - 1) (Nat.lt_of_le_of_lt (Nat.sub_le _ _) t.isLt)) := by
  obtain ⟨n, hn⟩ := t
  cases n with
  | zero => exact absurd rfl h0
  | succ n => rfl

/-- A column buffer that holds the two coefficient columns. -/
def abOK (c : Dev nD) (d : Vec F S256x8 .f32) : Prop :=
  View.ld d (Rect.unit (s := S256x8) ![0, 0] S256x1.size inb_S256x8_S256x1_0_0) = acAt V c ∧ View.ld d (Rect.unit (s := S256x8) ![0, 1] S256x1.size inb_S256x8_S256x1_0_1) = bcAt V c

/-- The other call's buffers, which this call leaves alone. -/
def restOf (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f))

theorem PhiA1_eq (c : Dev nD) : (Pipeline.ΦA spec1 c : sProp 𝕄) =
    iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The invariant before position `n`: after a point, the accumulator named and the columns' contents known. -/
def PhiS (c : Dev nD) : (n : ℕ) → n ≤ cfg1.N → sProp 𝕄
  | 0, _ => Pipeline.ΦA spec1 c
  | n + 1, hn => iprop((restOf c ∗ owns (c : Thread nD τ) scM1_0 fullShare (accAt V c n hn) ∗ (∃ d, ⌜abOK V c d⌝ ∗ owns (c : Thread nD τ) scM1_1 fullShare d)) ∗ (∃ r, prngReg c r))
theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop((restOf c ∗ owns (c : Thread nD τ) scM1_0 fullShare (accAt V c n hn) ∗ (∃ d, ⌜abOK V c d⌝ ∗ owns (c : Thread nD τ) scM1_1 fullShare d)) ∗ (∃ r, prngReg c r)) := rfl
theorem PhiS_pos (c : Dev nD) (n : ℕ) (h : n ≤ cfg1.N) (hz : n ≠ 0) :
    PhiS V c n h = iprop((restOf c ∗ owns (c : Thread nD τ) scM1_0 fullShare (accAt V c (n - 1) (by omega)) ∗ (∃ d, ⌜abOK V c d⌝ ∗ owns (c : Thread nD τ) scM1_1 fullShare d)) ∗ (∃ r, prngReg c r)) := by
  cases n with
  | zero => exact absurd rfl hz
  | succ n => rfl

/-- The call's proof data: inputs keep their blocks, the scalars are what the accumulator gives. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => outOf (accAt V c t.val t.isLt)
  Φ t := PhiS V c t.val (Nat.le_of_lt_succ t.isLt)
  q _ := fullShare
  owed _ := 0
theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = outOf (accAt V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1_5 t, after1_5]
theorem leaves1_6 (c : Dev nD) (t : Fin cfg1.N) : (dat1 V c).leavesExact 6 t = owns (c : Thread nD τ) (ms1_6 t) fullShare (iblk1 V c 6 t) := by
  unfold Dat.leavesExact; rw [liveAt1_6 t, after1_6]
theorem leaves1_7 (c : Dev nD) (t : Fin cfg1.N) : (dat1 V c).leavesExact 7 t = owns (c : Thread nD τ) (ms1_7 t) fullShare (iblk1 V c 7 t) := by
  unfold Dat.leavesExact; rw [liveAt1_7 t, after1_7]
theorem leaves1_8 (c : Dev nD) (t : Fin cfg1.N) : (dat1 V c).leavesExact 8 t = owns (c : Thread nD τ) (ms1_8 t) fullShare (iblk1 V c 8 t) := by
  unfold Dat.leavesExact; rw [liveAt1_8 t, after1_8]
theorem leaves1_9 (c : Dev nD) (t : Fin cfg1.N) : (dat1 V c).leavesExact 9 t = owns (c : Thread nD τ) (ms1_9 t) fullShare (iblk1 V c 9 t) := by
  unfold Dat.leavesExact; rw [liveAt1_9 t, after1_9]
theorem leaves1_10 (c : Dev nD) (t : Fin cfg1.N) : (dat1 V c).leavesExact 10 t = owns (c : Thread nD τ) (ms1_10 t) fullShare (iblk1 V c 10 t) := by
  unfold Dat.leavesExact; rw [liveAt1_10 t, after1_10]
theorem leaves1_11 (c : Dev nD) (t : Fin cfg1.N) : (dat1 V c).leavesExact 11 t = owns (c : Thread nD τ) (ms1_11 t) fullShare (iblk1 V c 11 t) := by
  unfold Dat.leavesExact; rw [liveAt1_11 t, after1_11]
theorem leaves1_12 (c : Dev nD) (t : Fin cfg1.N) : (dat1 V c).leavesExact 12 t = owns (c : Thread nD τ) (ms1_12 t) fullShare (iblk1 V c 12 t) := by
  unfold Dat.leavesExact; rw [liveAt1_12 t, after1_12]
theorem leaves1_13 (c : Dev nD) (t : Fin cfg1.N) : (dat1 V c).leavesExact 13 t = owns (c : Thread nD τ) (ms1_13 t) fullShare (iblk1 V c 13 t) := by
  unfold Dat.leavesExact; rw [liveAt1_13 t, after1_13]
theorem leaves1_14 (c : Dev nD) (t : Fin cfg1.N) (h : cond1_1 (grid1.coords t)) : (dat1 V c).leavesExact 14 t = owns (c : Thread nD τ) (ms1_14 t) fullShare (outOf (accAt V c t.val t.isLt)) := by
  unfold Dat.leavesExact; rw [liveAt1_C t h, after1_14]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t)

set_option maxHeartbeats 19200000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, leaves1_0, leaves1_1, leaves1_2, leaves1_3, leaves1_4, leaves1_5, leaves1_6, leaves1_7, leaves1_8, leaves1_9, leaves1_10, leaves1_11, leaves1_12, leaves1_13]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 64 = 0
  · have h1 : ¬t.val % 64 = 63 := by omega
    rw [Dat.leavesExact_idle (dat1 V c) 14 t (idleAt1_A t (fun h => h1 ((hcond1_1 t).mp h))) (noFlush1_A t (fun h => h1 ((hcond1_1 t).mp h)))]
    have hz : t.val = 0 := by omega
    rw [PhiS_castSucc V c t, PhiS_zero V c _ _ hz, PhiA1_eq, accAt_first V c t hz]
    obtain rfl : t = pt0 := Fin.ext hz
    iintro ⟨⟨⟨G0, G1, G2, HS0, ⟨%xs1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((lossRunA c (grid1.coords _) _ _ _ _ _ _ _ _ _ _ _ _ _ _ _ _ _ _ _ _ _ _ _ _ _ _ _ _ _ _ _ _ _ _ ((hcond1_0 pt0).mpr h0) (fun h => h1 ((hcond1_1 pt0).mp h)) (iblk1 V c 0 pt0) (iblk1 V c 1 pt0) (iblk1 V c 2 pt0) (iblk1 V c 3 pt0) (iblk1 V c 4 pt0) (iblk1 V c 5 pt0) (iblk1 V c 6 pt0) (iblk1 V c 7 pt0) (iblk1 V c 8 pt0) (iblk1 V c 9 pt0) (iblk1 V c 10 pt0) (iblk1 V c 11 pt0) (iblk1 V c 12 pt0) (iblk1 V c 13 pt0) xs1).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    iintro ⟨H0, H1, H2, H3, H4, H5, H6, H7, H8, H9, H10, H11, H12, H13, H14, ⟨%es0, HS0⟩, HS1⟩
    isplitl [G0 G1 G2 HS0 HS1 Hg]
    · isplitl [G0 G1 G2 HS0 HS1]
      · isplitl [G0 G1 G2]
        · unfold restOf; isplitl [G0]; · iexact G0
          isplitl [G1]; · iexact G1
          iexact G2
        isplitl [HS0]
        · unfold owns; iexists _; isplitr
          swap; · iexact HS0
          ipureintro; exact accA_read c _ _ _ _ _ _ _ _ _ _ _ _ _ _ _ _ _ _ _ _ _ _ _ _ _ _ _ _ _ _ _ _ _ _ _ ((hcond1_0 pt0).mpr h0) (fun h => h1 ((hcond1_1 pt0).mp h)) (iblk1 V c 0 pt0) (iblk1 V c 1 pt0) (iblk1 V c 2 pt0) (iblk1 V c 3 pt0) (iblk1 V c 4 pt0) (iblk1 V c 5 pt0) (iblk1 V c 6 pt0) (iblk1 V c 7 pt0) (iblk1 V c 8 pt0) (iblk1 V c 9 pt0) (iblk1 V c 10 pt0) (iblk1 V c 11 pt0) (iblk1 V c 12 pt0) (iblk1 V c 13 pt0) xs1 _
        iexists _; isplitr
        swap
        · unfold owns; iexists _; isplitr
          swap; · iexact HS1
          ipureintro; rfl
        ipureintro
        exact ⟨abA_col0 c _ _ _ _ _ _ _ _ _ _ _ _ _ _ _ _ _ _ _ _ _ _ _ _ _ _ _ _ _ _ _ _ _ _ _ ((hcond1_0 pt0).mpr h0) (fun h => h1 ((hcond1_1 pt0).mp h)) (iblk1 V c 0 pt0) (iblk1 V c 1 pt0) (iblk1 V c 2 pt0) (iblk1 V c 3 pt0) (iblk1 V c 4 pt0) (iblk1 V c 5 pt0) (iblk1 V c 6 pt0) (iblk1 V c 7 pt0) (iblk1 V c 8 pt0) (iblk1 V c 9 pt0) (iblk1 V c 10 pt0) (iblk1 V c 11 pt0) (iblk1 V c 12 pt0) (iblk1 V c 13 pt0) xs1, abA_col1 c _ _ _ _ _ _ _ _ _ _ _ _ _ _ _ _ _ _ _ _ _ _ _ _ _ _ _ _ _ _ _ _ _ _ _ ((hcond1_0 pt0).mpr h0) (fun h => h1 ((hcond1_1 pt0).mp h)) (iblk1 V c 0 pt0) (iblk1 V c 1 pt0) (iblk1 V c 2 pt0) (iblk1 V c 3 pt0) (iblk1 V c 4 pt0) (iblk1 V c 5 pt0) (iblk1 V c 6 pt0) (iblk1 V c 7 pt0) (iblk1 V c 8 pt0) (iblk1 V c 9 pt0) (iblk1 V c 10 pt0) (iblk1 V c 11 pt0) (iblk1 V c 12 pt0) (iblk1 V c 13 pt0) xs1⟩
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14
  by_cases h1 : t.val % 64 = 63
  · rw [leaves1_14 V c t ((hcond1_1 t).mpr h1)]
    have hz : t.val ≠ 0 := by omega
    rw [PhiS_castSucc V c t, PhiS_pos V c _ _ hz, accAt_later V c t hz]
    iintro ⟨⟨⟨HR, HS0, ⟨%xs1, %hab, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((lossRunC c (grid1.coords _) _ _ _ _ _ _ _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _ xs1).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS0]; · iexact HS0
    isplitl [HS1]; · iexact HS1
    iintro ⟨H0, H1, H2, H3, H4, H5, H6, H7, H8, H9, H10, H11, H12, H13, ⟨%e14, H14⟩, HS0, HS1⟩
    isplitl [HR HS0 HS1 Hg]
    · isplitl [HR HS0 HS1]
      · isplitl [HR]
        · iexact HR
        isplitl [HS0]
        · unfold owns; iexists _; isplitr
          swap; · iexact HS0
          ipureintro; exact (accC_read c _ _ _ _ _ _ _ _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _ xs1).trans (by rw [hab.1, hab.2])
        iexists xs1; isplitr
        · ipureintro; exact hab
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold owns; iexists _; isplitr
    swap; · iexact H14
    ipureintro; exact (outC_read c _ _ _ _ _ _ _ _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _ xs1 _).trans (by rw [hab.1, hab.2])
  · rw [Dat.leavesExact_idle (dat1 V c) 14 t (idleAt1_A t (fun h => h1 ((hcond1_1 t).mp h))) (noFlush1_A t (fun h => h1 ((hcond1_1 t).mp h)))]
    have hz : t.val ≠ 0 := by omega
    rw [PhiS_castSucc V c t, PhiS_pos V c _ _ hz, accAt_later V c t hz]
    iintro ⟨⟨⟨HR, HS0, ⟨%xs1, %hab, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((lossRunB c (grid1.coords _) _ _ _ _ _ _ _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _ xs1).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    iintro ⟨H0, H1, H2, H3, H4, H5, H6, H7, H8, H9, H10, H11, H12, H13, H14, HS0, HS1⟩
    isplitl [HR HS0 HS1 Hg]
    · isplitl [HR HS0 HS1]
      · isplitl [HR]
        · iexact HR
        isplitl [HS0]
        · unfold owns; iexists _; isplitr
          swap; · iexact HS0
          ipureintro; exact (accB_read c _ _ _ _ _ _ _ _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _ xs1).trans (by rw [hab.1, hab.2])
        iexists xs1; isplitr
        · ipureintro; exact hab
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14

theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _
theorem hout1 (c : Dev nD) : (dat1 V c).Φ (Fin.last cfg1.N) ⊢ Pipeline.ΦA spec1 c := by
  rw [show (dat1 V c).Φ (Fin.last cfg1.N) = PhiS V c cfg1.N le_rfl from rfl, PhiS_pos V c _ _ (by have : cfg1.N = 64 := N_1; omega)]
  rw [PhiA1_eq]
  unfold restOf
  iintro ⟨⟨⟨G0, G1, G2⟩, HS0, ⟨%d, %h, HS1⟩⟩, Hg⟩
  isplitl [G0 G1 G2 HS0 HS1]
  · isplitl [G0]; · iexact G0
    isplitl [G1]; · iexact G1
    isplitl [G2]; · iexact G2
    isplitl [HS0]; · iexists _; iexact HS0
    iexists _; iexact HS1
  iexact Hg

end Cert.KernelIdeal.Run

end
-- ==== Proof.Run.lean ====
module

public import proofs.«01_k».proof.Proof.GramRegion
public import proofs.«01_k».proof.Proof.LossRegion
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

theorem hostOps1_args : ∀ a ∈ argRefs, a ∉ hostOps1_W := ListAll.forall_mem_of_all_decide (by decide +kernel)
theorem hostOps1_1_args : ∀ a ∈ argRefs, a ∉ hostOps1_1_W := ListAll.forall_mem_of_all_decide (by decide +kernel)
theorem hostOps1_2_args : ∀ a ∈ argRefs, a ∉ hostOps1_2_W := ListAll.forall_mem_of_all_decide (by decide +kernel)
theorem hostOps1_3_args : ∀ a ∈ argRefs, a ∉ hostOps1_3_W := ListAll.forall_mem_of_all_decide (by decide +kernel)
theorem hostOps1_4_args : ∀ a ∈ argRefs, a ∉ hostOps1_4_W := ListAll.forall_mem_of_all_decide (by decide +kernel)
theorem hostOps1_5_args : ∀ a ∈ argRefs, a ∉ hostOps1_5_W := ListAll.forall_mem_of_all_decide (by decide +kernel)
theorem hostOps1_6_args : ∀ a ∈ argRefs, a ∉ hostOps1_6_W := ListAll.forall_mem_of_all_decide (by decide +kernel)
theorem hostOps1_7_args : ∀ a ∈ argRefs, a ∉ hostOps1_7_W := ListAll.forall_mem_of_all_decide (by decide +kernel)
theorem hostOps1_8_args : ∀ a ∈ argRefs, a ∉ hostOps1_8_W := ListAll.forall_mem_of_all_decide (by decide +kernel)
theorem hostOps1_9_args : ∀ a ∈ argRefs, a ∉ hostOps1_9_W := ListAll.forall_mem_of_all_decide (by decide +kernel)
theorem hostOps1_10_args : ∀ a ∈ argRefs, a ∉ hostOps1_10_W := ListAll.forall_mem_of_all_decide (by decide +kernel)
theorem hostOps1_11_args : ∀ a ∈ argRefs, a ∉ hostOps1_11_W := ListAll.forall_mem_of_all_decide (by decide +kernel)
theorem hostOps1_12_args : ∀ a ∈ argRefs, a ∉ hostOps1_12_W := ListAll.forall_mem_of_all_decide (by decide +kernel)
theorem hostOps2_args : ∀ a ∈ argRefs, a ∉ hostOps2_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1`. -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- After `hostOps1_1`. -/
abbrev W3 : Dev nD → Valuation τ sig (Elt F) := fun c => StableHlo.after hostOps1_1 (W2 m ρ c)
/-- A reference `hostOps1_1` does not write keeps its contents across it. -/
theorem W3_of (c : Dev nD) (r : Ref sig .tc) (h : r ∉ hostOps1_1_W) : W3 m ρ c (Proc.devRef .tc r) = W2 m ρ c (Proc.devRef .tc r) :=
  StableHlo.after_of_writes_sub hostOps1_1 _ hostOps1_1_writes h
theorem W3_args (c : Dev nD) : ∀ a ∈ argRefs, W3 m ρ c (Proc.devRef .tc a) = m ((c : Thread nD τ).loc a) :=
  fun a ha => (W3_of m ρ c a (hostOps1_1_args a ha)).trans (W2_args m ρ c a ha)
/-- After `hostOps1_2`. -/
abbrev W4 : Dev nD → Valuation τ sig (Elt F) := fun c => StableHlo.after hostOps1_2 (W3 m ρ c)
/-- A reference `hostOps1_2` does not write keeps its contents across it. -/
theorem W4_of (c : Dev nD) (r : Ref sig .tc) (h : r ∉ hostOps1_2_W) : W4 m ρ c (Proc.devRef .tc r) = W3 m ρ c (Proc.devRef .tc r) :=
  StableHlo.after_of_writes_sub hostOps1_2 _ hostOps1_2_writes h
theorem W4_args (c : Dev nD) : ∀ a ∈ argRefs, W4 m ρ c (Proc.devRef .tc a) = m ((c : Thread nD τ).loc a) :=
  fun a ha => (W4_of m ρ c a (hostOps1_2_args a ha)).trans (W3_args m ρ c a ha)
/-- After `hostOps1_3`. -/
abbrev W5 : Dev nD → Valuation τ sig (Elt F) := fun c => StableHlo.after hostOps1_3 (W4 m ρ c)
/-- A reference `hostOps1_3` does not write keeps its contents across it. -/
theorem W5_of (c : Dev nD) (r : Ref sig .tc) (h : r ∉ hostOps1_3_W) : W5 m ρ c (Proc.devRef .tc r) = W4 m ρ c (Proc.devRef .tc r) :=
  StableHlo.after_of_writes_sub hostOps1_3 _ hostOps1_3_writes h
theorem W5_args (c : Dev nD) : ∀ a ∈ argRefs, W5 m ρ c (Proc.devRef .tc a) = m ((c : Thread nD τ).loc a) :=
  fun a ha => (W5_of m ρ c a (hostOps1_3_args a ha)).trans (W4_args m ρ c a ha)
/-- After `hostOps1_4`. -/
abbrev W6 : Dev nD → Valuation τ sig (Elt F) := fun c => StableHlo.after hostOps1_4 (W5 m ρ c)
/-- A reference `hostOps1_4` does not write keeps its contents across it. -/
theorem W6_of (c : Dev nD) (r : Ref sig .tc) (h : r ∉ hostOps1_4_W) : W6 m ρ c (Proc.devRef .tc r) = W5 m ρ c (Proc.devRef .tc r) :=
  StableHlo.after_of_writes_sub hostOps1_4 _ hostOps1_4_writes h
theorem W6_args (c : Dev nD) : ∀ a ∈ argRefs, W6 m ρ c (Proc.devRef .tc a) = m ((c : Thread nD τ).loc a) :=
  fun a ha => (W6_of m ρ c a (hostOps1_4_args a ha)).trans (W5_args m ρ c a ha)
/-- After `hostOps1_5`. -/
abbrev W7 : Dev nD → Valuation τ sig (Elt F) := fun c => StableHlo.after hostOps1_5 (W6 m ρ c)
/-- A reference `hostOps1_5` does not write keeps its contents across it. -/
theorem W7_of (c : Dev nD) (r : Ref sig .tc) (h : r ∉ hostOps1_5_W) : W7 m ρ c (Proc.devRef .tc r) = W6 m ρ c (Proc.devRef .tc r) :=
  StableHlo.after_of_writes_sub hostOps1_5 _ hostOps1_5_writes h
theorem W7_args (c : Dev nD) : ∀ a ∈ argRefs, W7 m ρ c (Proc.devRef .tc a) = m ((c : Thread nD τ).loc a) :=
  fun a ha => (W7_of m ρ c a (hostOps1_5_args a ha)).trans (W6_args m ρ c a ha)
/-- After `hostOps1_6`. -/
abbrev W8 : Dev nD → Valuation τ sig (Elt F) := fun c => StableHlo.after hostOps1_6 (W7 m ρ c)
/-- A reference `hostOps1_6` does not write keeps its contents across it. -/
theorem W8_of (c : Dev nD) (r : Ref sig .tc) (h : r ∉ hostOps1_6_W) : W8 m ρ c (Proc.devRef .tc r) = W7 m ρ c (Proc.devRef .tc r) :=
  StableHlo.after_of_writes_sub hostOps1_6 _ hostOps1_6_writes h
theorem W8_args (c : Dev nD) : ∀ a ∈ argRefs, W8 m ρ c (Proc.devRef .tc a) = m ((c : Thread nD τ).loc a) :=
  fun a ha => (W8_of m ρ c a (hostOps1_6_args a ha)).trans (W7_args m ρ c a ha)
/-- After `hostOps1_7`. -/
abbrev W9 : Dev nD → Valuation τ sig (Elt F) := fun c => StableHlo.after hostOps1_7 (W8 m ρ c)
/-- A reference `hostOps1_7` does not write keeps its contents across it. -/
theorem W9_of (c : Dev nD) (r : Ref sig .tc) (h : r ∉ hostOps1_7_W) : W9 m ρ c (Proc.devRef .tc r) = W8 m ρ c (Proc.devRef .tc r) :=
  StableHlo.after_of_writes_sub hostOps1_7 _ hostOps1_7_writes h
theorem W9_args (c : Dev nD) : ∀ a ∈ argRefs, W9 m ρ c (Proc.devRef .tc a) = m ((c : Thread nD τ).loc a) :=
  fun a ha => (W9_of m ρ c a (hostOps1_7_args a ha)).trans (W8_args m ρ c a ha)
/-- After `hostOps1_8`. -/
abbrev W10 : Dev nD → Valuation τ sig (Elt F) := fun c => StableHlo.after hostOps1_8 (W9 m ρ c)
/-- A reference `hostOps1_8` does not write keeps its contents across it. -/
theorem W10_of (c : Dev nD) (r : Ref sig .tc) (h : r ∉ hostOps1_8_W) : W10 m ρ c (Proc.devRef .tc r) = W9 m ρ c (Proc.devRef .tc r) :=
  StableHlo.after_of_writes_sub hostOps1_8 _ hostOps1_8_writes h
theorem W10_args (c : Dev nD) : ∀ a ∈ argRefs, W10 m ρ c (Proc.devRef .tc a) = m ((c : Thread nD τ).loc a) :=
  fun a ha => (W10_of m ρ c a (hostOps1_8_args a ha)).trans (W9_args m ρ c a ha)
/-- After `hostOps1_9`. -/
abbrev W11 : Dev nD → Valuation τ sig (Elt F) := fun c => StableHlo.after hostOps1_9 (W10 m ρ c)
/-- A reference `hostOps1_9` does not write keeps its contents across it. -/
theorem W11_of (c : Dev nD) (r : Ref sig .tc) (h : r ∉ hostOps1_9_W) : W11 m ρ c (Proc.devRef .tc r) = W10 m ρ c (Proc.devRef .tc r) :=
  StableHlo.after_of_writes_sub hostOps1_9 _ hostOps1_9_writes h
theorem W11_args (c : Dev nD) : ∀ a ∈ argRefs, W11 m ρ c (Proc.devRef .tc a) = m ((c : Thread nD τ).loc a) :=
  fun a ha => (W11_of m ρ c a (hostOps1_9_args a ha)).trans (W10_args m ρ c a ha)
/-- After `hostOps1_10`. -/
abbrev W12 : Dev nD → Valuation τ sig (Elt F) := fun c => StableHlo.after hostOps1_10 (W11 m ρ c)
/-- A reference `hostOps1_10` does not write keeps its contents across it. -/
theorem W12_of (c : Dev nD) (r : Ref sig .tc) (h : r ∉ hostOps1_10_W) : W12 m ρ c (Proc.devRef .tc r) = W11 m ρ c (Proc.devRef .tc r) :=
  StableHlo.after_of_writes_sub hostOps1_10 _ hostOps1_10_writes h
theorem W12_args (c : Dev nD) : ∀ a ∈ argRefs, W12 m ρ c (Proc.devRef .tc a) = m ((c : Thread nD τ).loc a) :=
  fun a ha => (W12_of m ρ c a (hostOps1_10_args a ha)).trans (W11_args m ρ c a ha)
/-- After `hostOps1_11`. -/
abbrev W13 : Dev nD → Valuation τ sig (Elt F) := fun c => StableHlo.after hostOps1_11 (W12 m ρ c)
/-- A reference `hostOps1_11` does not write keeps its contents across it. -/
theorem W13_of (c : Dev nD) (r : Ref sig .tc) (h : r ∉ hostOps1_11_W) : W13 m ρ c (Proc.devRef .tc r) = W12 m ρ c (Proc.devRef .tc r) :=
  StableHlo.after_of_writes_sub hostOps1_11 _ hostOps1_11_writes h
theorem W13_args (c : Dev nD) : ∀ a ∈ argRefs, W13 m ρ c (Proc.devRef .tc a) = m ((c : Thread nD τ).loc a) :=
  fun a ha => (W13_of m ρ c a (hostOps1_11_args a ha)).trans (W12_args m ρ c a ha)
/-- After `hostOps1_12` (region 1's entry). -/
abbrev W14 : Dev nD → Valuation τ sig (Elt F) := fun c => StableHlo.after hostOps1_12 (W13 m ρ c)
/-- A reference `hostOps1_12` does not write keeps its contents across it. -/
theorem W14_of (c : Dev nD) (r : Ref sig .tc) (h : r ∉ hostOps1_12_W) : W14 m ρ c (Proc.devRef .tc r) = W13 m ρ c (Proc.devRef .tc r) :=
  StableHlo.after_of_writes_sub hostOps1_12 _ hostOps1_12_writes h
theorem W14_args (c : Dev nD) : ∀ a ∈ argRefs, W14 m ρ c (Proc.devRef .tc a) = m ((c : Thread nD τ).loc a) :=
  fun a ha => (W14_of m ρ c a (hostOps1_12_args a ha)).trans (W13_args m ρ c a ha)
/-- The same read at the TensorCore's references (what region 1's proof data take). -/
abbrev V14 : (c : Dev nD) → (b : Ref sig .tc) → Buf (Elt F) ((c : Thread nD τ).loc b) := fun c b => W14 m ρ c b
/-- At region 1's exit: its arrays at what the pipeline leaves (the inputs as entered, each output's write-backs
    folded: `Dat.arrAt … N`), every other buffer as entered (Lib/Pipeline/FrameSuffix.lean `withArrays`). -/
def W15 (c : Dev nD) : Valuation τ sig (Elt F) :=
  Pipeline.withArrays spec1 c (W14 m ρ c) fun w => (dat1 (V14 m ρ) c).arrAt w cfg1.N
theorem W15_arr (c : Dev nD) (w : Fin cfg1.W) :
    W15 m ρ c (Proc.devRef .tc (Pipeline.arrRef spec1 w)) = (dat1 (V14 m ρ) c).arrAt w cfg1.N := by
  unfold W15; exact Pipeline.withArrays_arr spec1 launch1.win.arr_inj c _ _ w
theorem W15_of_ne (c : Dev nD) (b : Ref sig .tc) (hb : ∀ w, Pipeline.arrRef spec1 w ≠ b) :
    W15 m ρ c (Proc.devRef .tc b) = W14 m ρ c (Proc.devRef .tc b) := by
  unfold W15; exact Pipeline.withArrays_of_ne spec1 c _ _ b hb
/-- A reference that is none of region 1's OUTPUT arrays keeps its entry contents across it: an input window's
    array is never written back (`Dat.arrAt_in`, `A_eq1`); any other buffer is left as is. -/
theorem W15_of (c : Dev nD) (r : Ref sig .tc) (h : ∀ w : Fin cfg1.W, Pipeline.arrRef spec1 w = r → (cfg1.win w).isOut = false) :
    W15 m ρ c (Proc.devRef .tc r) = W14 m ρ c (Proc.devRef .tc r) := by
  by_cases hw : ∃ w : Fin cfg1.W, Pipeline.arrRef spec1 w = r
  · obtain ⟨w, rfl⟩ := hw
    exact (W15_arr m ρ c w).trans (((dat1 (V14 m ρ) c).arrAt_in w (h w rfl) _).trans (A_eq1 (V14 m ρ) c w))
  · exact W15_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W15_args (c : Dev nD) : ∀ a ∈ argRefs, W15 m ρ c (Proc.devRef .tc a) = m ((c : Thread nD τ).loc a) :=
  fun a ha => (W15_of m ρ c a (argsIn1 a ha)).trans (W14_args m ρ c a ha)
/-- The same read at the TensorCore's references (region 1's exit contents). -/
abbrev V15 : (c : Dev nD) → (b : Ref sig .tc) → Buf (Elt F) ((c : Thread nD τ).loc b) := fun c b => W15 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V14 m ρ) c).arrAt w cfg1.N = V15 m ρ c (Pipeline.arrRef spec1 w) :=
  (W15_arr m ρ c w).symm
theorem hrest1 (c : Dev nD) : ∀ b, b ∉ Finset.univ.image (Pipeline.arrRef spec1) → V15 m ρ c b = V14 m ρ c b :=
  fun b hb => W15_of_ne m ρ c b fun w e => hb (Finset.mem_image.mpr ⟨w, Finset.mem_univ _, e⟩)

/-- After `hostOps2`. -/
abbrev W16 : Dev nD → Valuation τ sig (Elt F) := fun c => StableHlo.after hostOps2 (W15 m ρ c)
/-- A reference `hostOps2` does not write keeps its contents across it. -/
theorem W16_of (c : Dev nD) (r : Ref sig .tc) (h : r ∉ hostOps2_W) : W16 m ρ c (Proc.devRef .tc r) = W15 m ρ c (Proc.devRef .tc r) :=
  StableHlo.after_of_writes_sub hostOps2 _ hostOps2_writes h
theorem W16_args (c : Dev nD) : ∀ a ∈ argRefs, W16 m ρ c (Proc.devRef .tc a) = m ((c : Thread nD τ).loc a) :=
  fun a ha => (W16_of m ρ c a (hostOps2_args a ha)).trans (W15_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W16`, the generator register at some state. -/
abbrev Tₙ (c : Dev nD) : sProp 𝕄 := iprop(StableHlo.held (c : Thread nD τ) (Pipeline.ucRefs τ sig) (W16 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W14`, left at `W15`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V14 m ρ) c).loose
  hwaits := Pipeline.hwaits_of_owed_zero _ _ _ _ L lv 1 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec1 c (V14 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V14 m ρ c) (A_eq1 (V14 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V14 m ρ) c; unfold Pipeline.ΦA at h
    rw [show (pdats m ρ 1 c).Φ 0 = (dat1 (V14 m ρ) c).Φ 0 from rfl]
    iintro ⟨Hp, -, Hr⟩
    iapply h
    isplitl [Hr]; · iexact Hr
    iexact Hp
  hout c := by
    have h := hout1 (V14 m ρ) c; unfold Pipeline.ΦA at h
    rw [Pipeline.ownSems0_none, show (pdats m ρ 1 c).Φ (Fin.last _) = (dat1 (V14 m ρ) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V14 m ρ c) (V15 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 16 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .host (hseg hostOps1_4 hostOps1_4_sub hostOps1_4_fresh (W5 m ρ)),
    .host (hseg hostOps1_5 hostOps1_5_sub hostOps1_5_fresh (W6 m ρ)),
    .host (hseg hostOps1_6 hostOps1_6_sub hostOps1_6_fresh (W7 m ρ)),
    .host (hseg hostOps1_7 hostOps1_7_sub hostOps1_7_fresh (W8 m ρ)),
    .host (hseg hostOps1_8 hostOps1_8_sub hostOps1_8_fresh (W9 m ρ)),
    .host (hseg hostOps1_9 hostOps1_9_sub hostOps1_9_fresh (W10 m ρ)),
    .host (hseg hostOps1_10 hostOps1_10_sub hostOps1_10_fresh (W11 m ρ)),
    .host (hseg hostOps1_11 hostOps1_11_sub hostOps1_11_fresh (W12 m ρ)),
    .host (hseg hostOps1_12 hostOps1_12_sub hostOps1_12_fresh (W13 m ρ)),
    .region (reg1 m ρ),
    .host (hseg hostOps2 hostOps2_sub hostOps2_fresh (W15 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every weakly fair execution of @main terminates without a fault, and in every final state each buffer that outlives the regions
    holds what the last boundary says and every counter is zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W16 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => ⟨h, funext fun g => hz g (.inr (no_unscoped g.2))⟩)

/-- A buffer that outlives the regions, read in a final state of `run`. -/
theorem run_at {M : (ℓ : Loc nD τ sig) → Buf (Elt F) ℓ} {c : Dev nD} (h : ∀ b ∈ Pipeline.ucRefs τ sig, M (((c : Thread nD τ)).1, b) = W16 m ρ c b)
    (r : Ref sig .tc) (hr : ¬ (Proc.devRef .tc r : DevRef τ sig).isScoped) : M ((c.tc : Thread nD τ).loc r) = W16 m ρ c (Proc.devRef .tc r) :=
  h _ (mem_uc r hr)
/-- An argument in a final state of `run`: as launched. -/
theorem run_arg {M : (ℓ : Loc nD τ sig) → Buf (Elt F) ℓ} {c : Dev nD} (h : ∀ b ∈ Pipeline.ucRefs τ sig, M (((c : Thread nD τ)).1, b) = W16 m ρ c b)
    (r : Ref sig .tc) (ha : r ∈ argRefs) (hr : ¬ (Proc.devRef .tc r : DevRef τ sig).isScoped) : M ((c.tc : Thread nD τ).loc r) = m ((c.tc : Thread nD τ).loc r) :=
  (run_at m ρ h r hr).trans (W16_args m ρ c r ha)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ h => ⟨fun c => ⟨run_arg m ρ (h.1 c) main_arg0 (by decide) (by decide), run_arg m ρ (h.1 c) main_arg1 (by decide) (by decide), run_arg m ρ (h.1 c) main_arg2 (by decide) (by decide), run_arg m ρ (h.1 c) main_arg3 (by decide) (by decide), run_arg m ρ (h.1 c) main_arg4 (by decide) (by decide), run_arg m ρ (h.1 c) main_arg5 (by decide) (by decide), run_arg m ρ (h.1 c) main_arg6 (by decide) (by decide), run_arg m ρ (h.1 c) main_arg7 (by decide) (by decide), run_arg m ρ (h.1 c) main_arg8 (by decide) (by decide), run_arg m ρ (h.1 c) main_arg9 (by decide) (by decide), run_arg m ρ (h.1 c) main_arg10 (by decide) (by decide), run_arg m ρ (h.1 c) main_arg11 (by decide) (by decide), run_arg m ρ (h.1 c) main_arg12 (by decide) (by decide), run_arg m ρ (h.1 c) main_arg13 (by decide) (by decide), run_arg m ρ (h.1 c) main_arg14 (by decide) (by decide), run_arg m ρ (h.1 c) main_arg15 (by decide) (by decide), run_arg m ρ (h.1 c) main_arg16 (by decide) (by decide)⟩, h.2⟩) (run m ρ)

end Cert.KernelIdeal.Run

end
-- ==== Proof.Spec.lean ====
module

public import Idealize.ShloMosaic.Lib.ValueIdx
public import Idealize.ShloMosaic.Lib.IdealHost
public import Idealize.ShloMosaic.PureOps.Ideal.Laws

/-! The problem's formulas, one point at a time, over the extended reals. -/

@[expose] public section

noncomputable section

namespace Cert.Points

open Idealize.ShloMosaic

/-- The backbone's features of a point. -/
def feat (x : Fin 6 → EReal) (W : Fin 6 → Fin 256 → EReal) (b : Fin 256 → EReal) (c : Fin 256) : EReal := ∑ k, x k * W k c + b c
/-- The hidden layer before its offset. -/
def hid (f : Fin 256 → EReal) (W1 : Fin 256 → Fin 256 → EReal) (j : Fin 256) : EReal := ∑ c, f c * W1 c j
/-- The predicted offset of a point. -/
def head (h : Fin 256 → EReal) (W2 : Fin 256 → Fin 3 → EReal) (b2 : Fin 3 → EReal) (q : Fin 3) : EReal := ∑ j, h j * W2 j q + b2 q
/-- The logits of a point. -/
def logits (f : Fin 256 → EReal) (Ws : Fin 256 → Fin 20 → EReal) (bs : Fin 20 → EReal) (n : Fin 20) : EReal := ∑ c, f c * Ws c n + bs n
/-- One where a label is present, zero where it is -1. -/
def flag (s : BitVec 32) : EReal := if s = 4294967295#32 then 0 else 1
/-- The class a label names, the first where it is -1. -/
def tgt (s : BitVec 32) : BitVec 32 := if s = 4294967295#32 then 0#32 else s
/-- The logit of the labelled class. -/
def pick (l : Fin 20 → EReal) (s : BitVec 32) : EReal := ∑ n : Fin 20, if BitVec.ofNat 32 n.val = tgt s then l n else 0
/-- The small constants. -/
def eps8 : EReal := Ideal.ofBits .f32 0x322BCC77#32
def eps3 : EReal := Ideal.ofBits .f32 0x3A83126F#32
def count : EReal := Ideal.ofBits .f32 0x48800000#32
/-- The distance, the padded length and the negated cosine of two offsets. -/
def dist (u v : Fin 3 → EReal) : EReal := ∑ q, max (u q - v q) (-(u q - v q))
def len (v : Fin 3 → EReal) : EReal := Ideal.sqrt (∑ q, v q * v q) + eps8
def cosv (u v : Fin 3 → EReal) : EReal := -∑ q, Ideal.div (u q) (len u) * Ideal.div (v q) (len v)
/-- The greatest logit. -/
def top (l : Fin 20 → EReal) : EReal := Finset.univ.sup l
/-- The logarithm of the sum of exponentials, taken after the greatest logit is subtracted, -/
def lseShift (l : Fin 20 → EReal) : EReal := Ideal.log (∑ n, Ideal.exp (l n - top l)) + top l
/-- and taken directly. -/
def lsePlain (l : Fin 20 → EReal) : EReal := Ideal.log (∑ n, Ideal.exp (l n))
/-- The three losses from the five sums. -/
def segLoss (A B : EReal) : EReal := Ideal.div A (max B 1)
def maskMean (C D : EReal) : EReal := Ideal.div C (D + eps8)

end Cert.Points

end
-- ==== Proof.LossValue.lean ====
module

public import proofs.«01_k».proof.Proof.LossStep
public import proofs.«01_k».proof.Proof.Spec
public import Idealize.ShloMosaic.Lib.Pointwise

/-! The loss kernel's values at one lane of a tile, in the problem's formulas. -/

@[expose] public section

noncomputable section

namespace Cert.KernelIdeal.Val

open Cert.KernelIdeal Cert.KernelIdeal.Gen Cert.KernelIdeal.Run Cert.Points
open Idealize.ShloMosaic

/-! ## A tile's blocks as plain families of numbers -/

/-- A point's features as read, and the weights as the blocks hold them. -/
def xF (x0 : Vec Ideal S4096x6 .f32) (l : Fin 4096) : Fin 6 → EReal := fun k => x0 (ix2 l k)
def wF (x5 : Vec Ideal S256x8 .f32) : Fin 6 → Fin 256 → EReal := fun k c => x5 (ix2 c ⟨k.val, by omega⟩)
def colF (x6 : Vec Ideal S256x1 .f32) : Fin 256 → EReal := fun c => x6 (ix2 c 0)
def w1F (x7 : Vec Ideal S256x256 .f32) : Fin 256 → Fin 256 → EReal := fun c j => x7 (ix2 j c)
def w2F (x10 : Vec Ideal S8x256 .f32) : Fin 256 → Fin 3 → EReal := fun j q => x10 (ix2 ⟨q.val, by omega⟩ j)
def b2F (x11 : Vec Ideal S8x1 .f32) : Fin 3 → EReal := fun q => x11 (ix2 ⟨q.val, by omega⟩ 0)
def wsF (x12 : Vec Ideal S32x256 .f32) : Fin 256 → Fin 20 → EReal := fun c n => x12 (ix2 ⟨n.val, by omega⟩ c)
def bsF (x13 : Vec Ideal S32x1 .f32) : Fin 20 → EReal := fun n => x13 (ix2 ⟨n.val, by omega⟩ 0)
/-- The true offset of a point: its centre less its position. -/
def uF (x1 : Vec Ideal S4096x6 .f32) (l : Fin 4096) : Fin 3 → EReal := fun q => x1 (ix2 l ⟨3 + q.val, by omega⟩) - x1 (ix2 l ⟨q.val, by omega⟩)

/-! ## Loads of blocks -/

theorem ld_x0 (x : Vec Ideal S4096x6 .f32) : View.ld x (Rect.unit ![0, 0] S4096x6.size inb_S4096x6_S4096x6_0_0) = x := by
  funext i
  idx_vars i
  pointwise
theorem ld_x5w (x : Vec Ideal S256x8 .f32) : View.ld x (Rect.unit ![0, 0] S256x8.size inb_S256x8_S256x8_0_0) = x := by
  funext i
  idx_vars i
  pointwise
theorem ld_x6 (x : Vec Ideal S256x1 .f32) : View.ld x (Rect.unit ![0, 0] S256x1.size inb_S256x1_S256x1_0_0) = x := by
  funext i
  idx_vars i
  pointwise
  rw [Subsingleton.elim i1 0]
theorem ld_x7 (x : Vec Ideal S256x256 .f32) : View.ld x (Rect.unit ![0, 0] S256x256.size inb_S256x256_S256x256_0_0) = x := by
  funext i
  idx_vars i
  pointwise
theorem ld_x9 (x : Vec Ideal S8x3 .f32) : View.ld x (Rect.unit ![0, 0] S8x3.size inb_S8x3_S8x3_0_0) = x := by
  funext i
  idx_vars i
  pointwise
theorem ld_x10 (x : Vec Ideal S8x256 .f32) : View.ld x (Rect.unit ![0, 0] S8x256.size inb_S8x256_S8x256_0_0) = x := by
  funext i
  idx_vars i
  pointwise
theorem ld_x11 (x : Vec Ideal S8x1 .f32) : View.ld x (Rect.unit ![0, 0] S8x1.size inb_S8x1_S8x1_0_0) = x := by
  funext i
  idx_vars i
  pointwise
  rw [Subsingleton.elim i1 0]
theorem ld_x12 (x : Vec Ideal S32x256 .f32) : View.ld x (Rect.unit ![0, 0] S32x256.size inb_S32x256_S32x256_0_0) = x := by
  funext i
  idx_vars i
  pointwise
theorem ld_x13 (x : Vec Ideal S32x1 .f32) : View.ld x (Rect.unit ![0, 0] S32x1.size inb_S32x1_S32x1_0_0) = x := by
  funext i
  idx_vars i
  pointwise
  rw [Subsingleton.elim i1 0]
theorem ld_lab (x : Vec Ideal S4096 .i32) : View.ld x (Rect.unit ![0] S4096.size inb_S4096_S4096_0) = x := by
  funext i
  idx_vars i
  pointwise
theorem ld_x5 (x : Vec Ideal S256x8 .f32) : View.ld x (Rect.unit ![0, 0] S256x6.size inb_S256x8_S256x6_0_0) = fun i : S256x6.Idx => x (ix2 (i 0) ⟨(i 1).val, lt_trans (i 1).isLt (by decide)⟩) := by
  funext i
  idx_vars i
  pointwise
theorem ld_x4 (x : Vec Ideal S8x128 .f32) : View.ld x (Rect.unit ![0, 0] S8x8.size inb_S8x128_S8x8_0_0) = fun i : S8x8.Idx => x (ix2 (i 0) ⟨(i 1).val, lt_trans (i 1).isLt (by decide)⟩) := by
  funext i
  idx_vars i
  pointwise
theorem ld_g0 (x : Vec Ideal S256x8 .f32) : View.ld x (Rect.unit ![0, 0] S256x1.size inb_S256x8_S256x1_0_0) = fun i : S256x1.Idx => x (ix2 (i 0) 0) := by
  funext i
  idx_vars i
  pointwise
theorem ld_g1 (x : Vec Ideal S256x8 .f32) : View.ld x (Rect.unit ![0, 1] S256x1.size inb_S256x8_S256x1_0_1) = fun i : S256x1.Idx => x (ix2 (i 0) 1) := by
  funext i
  idx_vars i
  pointwise
theorem ld_g2 (x : Vec Ideal S256x8 .f32) : View.ld x (Rect.unit ![0, 2] S256x1.size inb_S256x8_S256x1_0_2) = fun i : S256x1.Idx => x (ix2 (i 0) 2) := by
  funext i
  idx_vars i
  pointwise

/-! ## The predicted offsets and the logits -/

/-- The features of a tile's point. -/
theorem pay21_apply (x : Vec Ideal S4096x6 .f32) (w : Vec Ideal S256x6 .f32) (b : Vec Ideal S256x1 .f32) (c : Fin 256) (l : Fin 4096) :
    k1_pay21 x w b (ix2 c l) = feat (fun k => x (ix2 l k)) (fun k c => w (ix2 c k)) (fun c => b (ix2 c 0)) c := by
  pointwise [k1_pay21]
  unfold feat
  exact congrArg (· + _) (Finset.sum_congr rfl fun k _ => mul_comm _ _)

theorem pay22_apply (x : Vec Ideal S4096x6 .f32) (w : Vec Ideal S256x6 .f32) (b : Vec Ideal S256x1 .f32) (w1 : Vec Ideal S256x256 .f32)
   (ac bc : Vec Ideal S256x1 .f32) (w2 : Vec Ideal S8x256 .f32) (b2 : Vec Ideal S8x1 .f32) (q : Fin 3) (l : Fin 4096) :
    k1_pay22 x w b w1 ac bc w2 b2 (ix2 q l) = head (fun j => max (hid (feat (fun k => x (ix2 l k)) (fun k c => w (ix2 c k)) (fun c => b (ix2 c 0))) (fun c j => w1 (ix2 j c)) j * ac (ix2 j 0) + bc (ix2 j 0)) 0)
      (w2F w2) (b2F b2) q := by
  pointwise [k1_pay22]
  unfold head w2F b2F hid
  refine congrArg (· + _) (Finset.sum_congr rfl fun j _ => ?_)
  rw [mul_comm]
  refine congrArg (fun z => max (z * _ + _) _ * _) (Finset.sum_congr rfl fun c _ => ?_)
  rw [mul_comm, pay21_apply]

/-- The predicted offset of a tile's point. -/
theorem biasOf_apply (x0 : Vec Ideal S4096x6 .f32) (x5 : Vec Ideal S256x8 .f32) (x6 : Vec Ideal S256x1 .f32) (x7 : Vec Ideal S256x256 .f32) (ac bc : Vec Ideal S256x1 .f32)
    (x10 : Vec Ideal S8x256 .f32) (x11 : Vec Ideal S8x1 .f32) (q : Fin 3) (l : Fin 4096) :
    biasOf x0 x5 x6 x7 ac bc x10 x11 (ix2 q l) = head (fun j => max (hid (feat (xF x0 l) (wF x5) (colF x6)) (w1F x7) j * ac (ix2 j 0) + bc (ix2 j 0)) 0) (w2F x10) (b2F x11) q := by
  unfold biasOf
  rw [ld_x0, ld_x5, ld_x6, ld_x7, ld_x10, ld_x11, pay22_apply]
  rfl

/-- The logits of a tile's point. -/
theorem logitOf_apply (x0 : Vec Ideal S4096x6 .f32) (x5 : Vec Ideal S256x8 .f32) (x6 : Vec Ideal S256x1 .f32) (x12 : Vec Ideal S32x256 .f32) (x13 : Vec Ideal S32x1 .f32) (n : Fin 20) (l : Fin 4096) :
    logitOf x0 x5 x6 x12 x13 (ix2 ⟨n.val, by omega⟩ l) = logits (feat (xF x0 l) (wF x5) (colF x6)) (wsF x12) (bsF x13) n := by
  unfold logitOf
  rw [ld_x12, ld_x13, ld_x0, ld_x5, ld_x6]
  pointwise [k1_pay30]
  unfold logits wsF bsF
  simp only [pay21_apply]
  exact congrArg (· + _) (Finset.sum_congr rfl fun k _ => mul_comm _ _)

/-! ## The masks -/

theorem flag_bits (s : BitVec 32) : FloatOps.sitofp (F := Ideal) .f32 (BitVec.setWidth 32 (IntOp.cmpi CmpIPredicate.ne s 4294967295#32)) = flag s := by
  unfold flag IntOp.cmpi
  by_cases h : s = 4294967295#32
  · subst h
    rw [if_pos rfl]
    simp [FloatOps.sitofp]
  · rw [if_neg h]
    have e : (s != 4294967295#32) = true := bne_iff_ne.mpr h
    simp [FloatOps.sitofp, e]

theorem tgt_bits (s : BitVec 32) : Scalar.select (IntOp.cmpi CmpIPredicate.ne s 4294967295#32) s 0#32 = tgt s := by
  unfold tgt IntOp.cmpi Scalar.select
  by_cases h : s = 4294967295#32
  · subst h; rfl
  · have e : (s != 4294967295#32) = true := bne_iff_ne.mpr h
    simp [h, e]

/-! ## The row of cross entropies -/

theorem sum_first_twenty (f : Fin 32 → EReal) (h : ∀ x : Fin 32, 20 ≤ x.val → f x = 0) : ∑ x, f x = ∑ n : Fin 20, f ⟨n.val, by omega⟩ := by
  rw [show (∑ x, f x) = ∑ x : Fin (20 + 12), f x from rfl, Fin.sum_univ_add]
  rw [show (∑ i : Fin 12, f (Fin.natAdd 20 i)) = 0 from Finset.sum_eq_zero fun i _ => h _ (by simp)]
  exact add_zero _

theorem below_twenty (x : Fin 32) : IntOp.cmpi CmpIPredicate.slt (BitVec.ofNat 32 x.val) 20#32 = if x.val < 20 then 1#1 else 0#1 := by
  revert x; decide

theorem bits_neg_inf : Ideal.ofBits .f32 0xFF800000#32 = (⊥ : EReal) := by
  simp [Ideal.ofBits, Ideal.ieee]

theorem fold_top (g : Fin 32 → EReal) (h : ∀ x : Fin 32, 20 ≤ x.val → g x = ⊥) :
    Finset.fold max (Ideal.ofBits .f32 0xFF800000#32) g Finset.univ = top fun n => g ⟨n.val, by omega⟩ := by
  rw [bits_neg_inf]
  show Finset.univ.sup g = Finset.univ.sup _
  apply le_antisymm
  · refine Finset.sup_le fun x _ => ?_
    by_cases hx : x.val < 20
    · exact Finset.le_sup (f := fun n : Fin 20 => g ⟨n.val, by omega⟩) (Finset.mem_univ (⟨x.val, hx⟩ : Fin 20))
    · rw [h x (by omega)]; exact bot_le
  · exact Finset.sup_le fun n _ => Finset.le_sup (f := g) (Finset.mem_univ _)

/-- One step on the row of cross entropies. -/
theorem row0Of_apply (x0 : Vec Ideal S4096x6 .f32) (x2 : Vec Ideal S4096 .i32) (x5 : Vec Ideal S256x8 .f32) (x6 : Vec Ideal S256x1 .f32) (x12 : Vec Ideal S32x256 .f32) (x13 : Vec Ideal S32x1 .f32)
    (r : Vec Ideal S1x4096 .f32) (l : Fin 4096) (ht : (tgt (x2 (ix1 l))).toNat < 20) :
    row0Of x0 x2 x5 x6 x12 x13 r (ix2 0 l) = r (ix2 0 l) + (lseShift (logits (feat (xF x0 l) (wF x5) (colF x6)) (wsF x12) (bsF x13)) - pick (logits (feat (xF x0 l) (wF x5) (colF x6)) (wsF x12) (bsF x13)) (x2 (ix1 l))) * flag (x2 (ix1 l)) := by
  unfold row0Of
  rw [ld_lab]
  have hL := fun n => logitOf_apply x0 x5 x6 x12 x13 n l
  generalize logitOf x0 x5 x6 x12 x13 = L at hL ⊢
  generalize logits (feat (xF x0 l) (wF x5) (colF x6)) (wsF x12) (bsF x13) = q at hL ⊢
  pointwise [k1_pay34, k1_pay33, k1_pay32, k1_pay31]
  simp only [tgt_bits, flag_bits, below_twenty]
  rw [fold_top _ (fun x hx => by rw [if_neg (by omega)]; exact bits_neg_inf), sum_first_twenty _ (fun x hx => by rw [if_neg (by omega)]; rfl),
    sum_first_twenty _ (fun x hx => by
      unfold Scalar.select IntOp.cmpi
      rw [if_neg]
      intro hc
      have e : BitVec.ofNat 32 x.val = tgt (x2 (ix1 l)) := by
        by_contra h
        have hb : (BitVec.ofNat 32 x.val == tgt (x2 (ix1 l))) = false := beq_eq_false_iff_ne.mpr h
        simp [hb] at hc
      rw [← e] at ht
      simp at ht
      omega)]
  have hb : ∀ n : Fin 20, (if n.val < 20 then 1#1 else 0#1) = 1#1 := fun n => if_pos n.isLt
  unfold lseShift pick
  simp only [hb, hL, Scalar.select, if_true]
  congr 3
  refine Finset.sum_congr rfl fun n _ => ?_
  unfold IntOp.cmpi
  by_cases h : BitVec.ofNat 32 n.val = tgt (x2 (ix1 l))
  · simp [h]
  · have e : (BitVec.ofNat 32 n.val == tgt (x2 (ix1 l))) = false := beq_eq_false_iff_ne.mpr h
    simp [h, e]

/-! ## The rows of labels, distances, masks and cosines -/

theorem row1Of_apply (x2 : Vec Ideal S4096 .i32) (r : Vec Ideal S1x4096 .f32) (l : Fin 4096) : row1Of x2 r (ix2 0 l) = r (ix2 0 l) + flag (x2 (ix1 l)) := by
  unfold row1Of
  rw [ld_lab]
  pointwise [k1_pay1, k1_pay35, k1_pay33, k1_pay32, k1_pay31]
  simp only [flag_bits]

theorem row3Of_apply (x3 : Vec Ideal S4096 .i32) (r : Vec Ideal S1x4096 .f32) (l : Fin 4096) : row3Of x3 r (ix2 0 l) = r (ix2 0 l) + flag (x3 (ix1 l)) := by
  unfold row3Of
  rw [ld_lab]
  pointwise [k1_pay3, k1_pay27]
  simp only [flag_bits]

/-- The product with the leading columns of the identity copies the offset. -/
theorem pay26_apply (x1 : Vec Ideal S4096x6 .f32) (x9 : Vec Ideal S8x3 .f32) (hE : ∀ q k : Fin 3, x9 (ix2 ⟨q.val, by omega⟩ k) = if q = k then 1 else 0) (q : Fin 3) (l : Fin 4096) :
    k1_pay26 (k1_pay24 x1) (k1_pay25 x1) x9 (ix2 q l) = uF x1 l q := by
  pointwise [k1_pay26, k1_pay24, k1_pay25, k1_pay23]
  simp only [hE]
  rw [Finset.sum_eq_single q (fun k _ hk => by rw [if_neg (Ne.symm hk), zero_mul]) (fun h => absurd (Finset.mem_univ q) h), if_pos rfl, one_mul]
  rfl

theorem row2Of_apply (x1 : Vec Ideal S4096x6 .f32) (x3 : Vec Ideal S4096 .i32) (x9 : Vec Ideal S8x3 .f32) (hE : ∀ q k : Fin 3, x9 (ix2 ⟨q.val, by omega⟩ k) = if q = k then 1 else 0)
    (bp : FVec Ideal S3x4096 .f32) (r : Vec Ideal S1x4096 .f32) (l : Fin 4096) :
    row2Of x1 x3 x9 bp r (ix2 0 l) = r (ix2 0 l) + dist (fun q => bp (ix2 q l)) (uF x1 l) * flag (x3 (ix1 l)) := by
  unfold row2Of
  rw [ld_lab, ld_x0, ld_x9]
  pointwise [k1_pay2, k1_pay28, k1_pay27]
  simp only [flag_bits, pay26_apply x1 x9 hE]
  rfl

theorem row4Of_apply (x1 : Vec Ideal S4096x6 .f32) (x3 : Vec Ideal S4096 .i32) (x9 : Vec Ideal S8x3 .f32) (hE : ∀ q k : Fin 3, x9 (ix2 ⟨q.val, by omega⟩ k) = if q = k then 1 else 0)
    (bp : FVec Ideal S3x4096 .f32) (r : Vec Ideal S1x4096 .f32) (l : Fin 4096) :
    row4Of x1 x3 x9 bp r (ix2 0 l) = r (ix2 0 l) + cosv (fun q => bp (ix2 q l)) (uF x1 l) * flag (x3 (ix1 l)) := by
  unfold row4Of
  rw [ld_lab, ld_x0, ld_x9]
  pointwise [k1_pay4, k1_pay29, k1_pay27]
  simp only [flag_bits, pay26_apply x1 x9 hE]
  unfold cosv len eps8
  rw [zero_sub]

/-! ## The folded batch normalisation -/

/-- The layers before the normalisation as one matrix, the offsets in its seventh column. -/
def wAug (x5 : Vec Ideal S256x8 .f32) (x6 : Vec Ideal S256x1 .f32) (x7 : Vec Ideal S256x256 .f32) (x8 : Vec Ideal S256x8 .f32) (c : Fin 256) (k : Fin 8) : EReal :=
  ∑ d, x7 (ix2 c d) * (x5 (ix2 d k) + if k = 6 then x6 (ix2 d 0) else 0) + if k = 6 then x8 (ix2 c 2) else 0
/-- The mean and the variance read off the Gram matrix. -/
def muOf (S : Fin 8 → Fin 8 → EReal) (w : Fin 8 → EReal) : EReal := Ideal.div (∑ k, w k * S k 6) count
def varOf (S : Fin 8 → Fin 8 → EReal) (w : Fin 8 → EReal) : EReal := Ideal.div (∑ j, (∑ k, w k * S k j) * w j) count - muOf S w * muOf S w

theorem is_six (k : Fin 8) : IntOp.cmpi CmpIPredicate.eq (BitVec.ofNat 32 k.val) 6#32 = if k = 6 then 1#1 else 0#1 := by
  revert k; decide

theorem select_six (k : Fin 8) (a : EReal) : Scalar.select (IntOp.cmpi CmpIPredicate.eq (BitVec.ofNat 32 k.val) 6#32) a 0 = if k = 6 then a else 0 := by
  rw [is_six]
  by_cases h : k = 6 <;> simp [h, Scalar.select]

theorem pay9_apply (x5 : Vec Ideal S256x8 .f32) (x6 : Vec Ideal S256x1 .f32) (x7 : Vec Ideal S256x256 .f32) (x8 : Vec Ideal S256x8 .f32) (c : Fin 256) (k : Fin 8) :
    k1_pay9 (fun i : S256x1.Idx => x8 (ix2 (i 0) 2)) x5 x6 x7 (ix2 c k) = wAug x5 x6 x7 x8 c k := by
  pointwise [k1_pay9, k1_pay8]
  simp only [select_six]
  rfl

/-- The Gram block of the padded statistics. -/
def sF (x4 : Vec Ideal S8x128 .f32) (i j : Fin 8) : EReal := x4 (ix2 i ⟨j.val, by omega⟩)

theorem aColOf_apply (x4 : Vec Ideal S8x128 .f32) (x5 : Vec Ideal S256x8 .f32) (x6 : Vec Ideal S256x1 .f32) (x7 : Vec Ideal S256x256 .f32) (x8 : Vec Ideal S256x8 .f32) (c : Fin 256) :
    aColOf x4 x5 x6 x7 x8 (ix2 c 0) = Ideal.div (x8 (ix2 c 0)) (Ideal.sqrt (varOf (sF x4) (wAug x5 x6 x7 x8 c) + eps3)) := by
  unfold aColOf
  rw [ld_g0, ld_g2, ld_x5w, ld_x6, ld_x7, ld_x4]
  pointwise [k1_pay19, k1_pay18, k1_pay17, k1_pay11, k1_pay10, k1_pay6]
  simp only [pay9_apply]
  rfl

theorem bColOf_apply (x4 : Vec Ideal S8x128 .f32) (x5 : Vec Ideal S256x8 .f32) (x6 : Vec Ideal S256x1 .f32) (x7 : Vec Ideal S256x256 .f32) (x8 : Vec Ideal S256x8 .f32) (c : Fin 256) :
    bColOf x4 x5 x6 x7 x8 (ix2 c 0) = (x8 (ix2 c 2) - muOf (sF x4) (wAug x5 x6 x7 x8 c)) * Ideal.div (x8 (ix2 c 0)) (Ideal.sqrt (varOf (sF x4) (wAug x5 x6 x7 x8 c) + eps3)) + x8 (ix2 c 1) := by
  unfold bColOf
  rw [ld_g0, ld_g1, ld_g2, ld_x5w, ld_x6, ld_x7, ld_x4]
  pointwise [k1_pay20, k1_pay18, k1_pay17, k1_pay11, k1_pay10, k1_pay6, k1_pay7, k1_pay8]
  simp only [pay9_apply]
  rfl

/-! ## The four results from the five rows -/

/-- A row's sum. -/
def tot (w : Vec Ideal S1x4096 .f32) : EReal := ∑ l : Fin 4096, w (ix2 0 l)

theorem pay12_eq (a b : Vec Ideal S1x4096 .f32) : k1_pay12 a b = segLoss (tot a) (tot b) := by
  unfold k1_pay12
  pointwise
  rfl
theorem pay14_eq (a b : Vec Ideal S1x4096 .f32) : k1_pay14 a b = maskMean (tot b) (tot a) := by
  unfold k1_pay14 k1_pay13
  pointwise
  rfl
theorem pay15_eq (a b : Vec Ideal S1x4096 .f32) : k1_pay15 a b = maskMean (tot b) (tot a) := by
  unfold k1_pay15 k1_pay13
  pointwise
  rfl

theorem pay16_eq (a b c d e : Vec Ideal S1x4096 .f32) : k1_pay16 a b c d e = segLoss (tot a) (tot b) + maskMean (tot d) (tot c) + maskMean (tot e) (tot c) := by
  unfold k1_pay16
  rw [pay12_eq, pay14_eq, pay15_eq]
  rfl

end Cert.KernelIdeal.Val

end
-- ==== Proof.Terms.lean ====
module

public import proofs.«01_k».proof.Proof.LossValue

/-! The arguments as plain families, and the results as formulas of them: once through the sums
of products the kernel takes, once as the reference states them. -/

@[expose] public section

noncomputable section

namespace Cert.Points

open Idealize.ShloMosaic Cert.KernelIdeal.Val

/-- A point's features, then a one, then a zero. -/
def ext (x : Fin 6 → EReal) (k : Fin 8) : EReal := if h : k.val < 6 then x ⟨k.val, h⟩ else if k.val = 6 then 1 else 0

/-- The problem's data. -/
structure Pts where
  x : Fin 262144 → Fin 6 → EReal
  pos : Fin 262144 → Fin 3 → EReal
  ctr : Fin 262144 → Fin 3 → EReal
  seg : Fin 262144 → BitVec 32
  ins : Fin 262144 → BitVec 32
  W : Fin 6 → Fin 256 → EReal
  b : Fin 256 → EReal
  W1 : Fin 256 → Fin 256 → EReal
  b1 : Fin 256 → EReal
  gam : Fin 256 → EReal
  bet : Fin 256 → EReal
  W2 : Fin 256 → Fin 3 → EReal
  b2 : Fin 3 → EReal
  Ws : Fin 256 → Fin 20 → EReal
  bs : Fin 20 → EReal

variable (P : Pts)

def Pts.ft (n : Fin 262144) : Fin 256 → EReal := feat (P.x n) P.W P.b
def Pts.lg (n : Fin 262144) : Fin 20 → EReal := logits (P.ft n) P.Ws P.bs
def Pts.tru (n : Fin 262144) (q : Fin 3) : EReal := P.ctr n q - P.pos n q

/-- The kernel's statistics: the sums of products, the two layers as one, and a column's scale and offset. -/
def Pts.gram (i j : Fin 8) : EReal := ∑ n, ext (P.x n) i * ext (P.x n) j
def Pts.aug (c : Fin 256) (k : Fin 8) : EReal :=
  ∑ d, P.W1 d c * ((if h : k.val < 6 then P.W ⟨k.val, h⟩ d else 0) + if k = 6 then P.b d else 0) + if k = 6 then P.b1 c else 0
def Pts.muK (c : Fin 256) : EReal := muOf P.gram (P.aug c)
def Pts.sdK (c : Fin 256) : EReal := Ideal.sqrt (varOf P.gram (P.aug c) + eps3)
def Pts.aK (c : Fin 256) : EReal := Ideal.div (P.gam c) (P.sdK c)
def Pts.bK (c : Fin 256) : EReal := (P.b1 c - P.muK c) * P.aK c + P.bet c
def Pts.hK (n : Fin 262144) (j : Fin 256) : EReal := max (hid (P.ft n) P.W1 j * P.aK j + P.bK j) 0

/-- The reference's: the hidden layer, its mean and variance over the points, and the normalised layer. -/
def Pts.hr (n : Fin 262144) (j : Fin 256) : EReal := hid (P.ft n) P.W1 j + P.b1 j
def Pts.muR (j : Fin 256) : EReal := Ideal.div (∑ n, P.hr n j) count
def Pts.varR (j : Fin 256) : EReal := Ideal.div (∑ n, (P.hr n j - P.muR j) * (P.hr n j - P.muR j)) count
def Pts.sdR (j : Fin 256) : EReal := Ideal.sqrt (P.varR j + eps3)
def Pts.hR (n : Fin 262144) (j : Fin 256) : EReal := max (Ideal.div (P.hr n j - P.muR j) (P.sdR j) * P.gam j + P.bet j) 0

/-- The three losses, from a way of taking the logarithm and from a hidden layer. -/
def Pts.segOf (lse : (Fin 20 → EReal) → EReal) : EReal :=
  segLoss (∑ n, (lse (P.lg n) - pick (P.lg n) (P.seg n)) * flag (P.seg n)) (∑ n, flag (P.seg n))
def Pts.l1Of (H : Fin 262144 → Fin 256 → EReal) : EReal :=
  maskMean (∑ n, dist (head (H n) P.W2 P.b2) (P.tru n) * flag (P.ins n)) (∑ n, flag (P.ins n))
def Pts.cosOf (H : Fin 262144 → Fin 256 → EReal) : EReal :=
  maskMean (∑ n, cosv (head (H n) P.W2 P.b2) (P.tru n) * flag (P.ins n)) (∑ n, flag (P.ins n))

end Cert.Points

end
-- ==== Proof.Algebra.lean ====
module

public import proofs.«01_k».proof.Proof.Terms

/-! Over finite arguments the kernel's formulas and the reference's agree: the mean and the
variance taken through the sums of products are the mean and the variance of the hidden layer, and
subtracting the greatest logit changes no logarithm of a sum of exponentials. -/

@[expose] public section

noncomputable section

namespace Cert.Points

open Idealize.ShloMosaic Cert.KernelIdeal.Val

/-- A finite sum of numbers, as a number. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of infinities of one sign. -/
theorem sum_bot {N : ℕ} : ∑ _n : Fin (N + 1), (⊥ : EReal) = ⊥ := by
  rw [Fin.sum_univ_succ, EReal.bot_add]
theorem sum_top {N : ℕ} : ∑ _n : Fin (N + 1), (⊤ : EReal) = ⊤ := by
  induction N with
  | zero => simp
  | succ N ih => rw [Fin.sum_univ_succ, ih, EReal.top_add_top]

theorem div_real (a : ℝ) {b : ℝ} (hb : b ≠ 0) : Ideal.div (a : EReal) (b : EReal) = ((a / b : ℝ) : EReal) := by
  rw [Ideal.div_coe hb, ← EReal.coe_mul, mul_one_div]

theorem count_eq : count = ((262144 : ℝ) : EReal) := by
  simp [count, Ideal.ofBits, Ideal.ieee]
  rw [← EReal.coe_mul]
  norm_num

theorem eps3_eq : ∃ e : ℝ, 0 < e ∧ eps3 = (e : EReal) := by
  simp [eps3, Ideal.ofBits, Ideal.ieee]
  refine ⟨8589935 * (2 ^ 33)⁻¹, by norm_num, ?_⟩
  norm_num [← EReal.coe_mul]

/-! ## The logarithm of a sum of exponentials -/

theorem lse_eq (l : Fin 20 → EReal) (h : ∀ n, ∃ r : ℝ, l n = (r : EReal)) : lseShift l = lsePlain l := by
  choose r hr using h
  obtain rfl : l = fun n => (r n : EReal) := funext hr
  obtain ⟨k, _, hk⟩ := Finset.exists_mem_eq_sup (Finset.univ : Finset (Fin 20)) Finset.univ_nonempty (fun n => (r n : EReal))
  have hpos : ∀ f : Fin 20 → ℝ, 0 < ∑ n, Real.exp (f n) := fun f => Finset.sum_pos (fun n _ => Real.exp_pos _) Finset.univ_nonempty
  unfold lseShift lsePlain top
  rw [hk]
  simp only [← EReal.coe_sub, Ideal.exp_coe, sum_coe, Ideal.log_coe]
  rw [if_neg (not_le.mpr (hpos _)), if_neg (not_le.mpr (hpos _)), ← EReal.coe_add]
  refine congrArg _ ?_
  have e : ∑ n, Real.exp (r n - r k) = (∑ n, Real.exp (r n)) * Real.exp (-r k) := by
    rw [Finset.sum_mul]
    exact Finset.sum_congr rfl fun n _ => by rw [sub_eq_add_neg, Real.exp_add]
  rw [e, Real.log_mul (hpos _).ne' (Real.exp_pos _).ne', Real.log_exp]
  ring

/-! ## The statistics -/

/-- The mean and the mean of squares through sums of products. -/
theorem mean_gram {N : ℕ} (e : Fin N → Fin 8 → ℝ) (w : Fin 8 → ℝ) (h6 : ∀ n, e n 6 = 1) :
    ∑ k, w k * ∑ n, e n k * e n 6 = ∑ n, ∑ k, w k * e n k := by
  rw [Finset.sum_comm]
  exact Finset.sum_congr rfl fun k _ => by
    rw [Finset.mul_sum]
    exact Finset.sum_congr rfl fun n _ => by rw [h6, mul_one]

theorem square_gram {N : ℕ} (e : Fin N → Fin 8 → ℝ) (w : Fin 8 → ℝ) :
    ∑ j, (∑ k, w k * ∑ n, e n k * e n j) * w j = ∑ n, (∑ k, w k * e n k) * (∑ k, w k * e n k) := by
  have h : ∀ n, (∑ k, w k * e n k) * (∑ k, w k * e n k) = ∑ j, ∑ k, w k * (e n k * e n j) * w j := fun n => by
    rw [Finset.sum_mul_sum, Finset.sum_comm]
    exact Finset.sum_congr rfl fun j _ => Finset.sum_congr rfl fun k _ => by ring
  rw [Finset.sum_congr rfl fun n _ => h n, Finset.sum_comm]
  refine Finset.sum_congr rfl fun j _ => ?_
  rw [Finset.sum_comm, Finset.sum_mul]
  refine Finset.sum_congr rfl fun k _ => ?_
  rw [← Finset.sum_mul, ← Finset.mul_sum]

theorem variance_two {N : ℕ} (h : Fin N → ℝ) (C : ℝ) (hC : C = N) (h0 : C ≠ 0) :
    (∑ n, (h n - (∑ n, h n) / C) * (h n - (∑ n, h n) / C)) / C = (∑ n, h n * h n) / C - (∑ n, h n) / C * ((∑ n, h n) / C) := by
  set M := (∑ n, h n) / C with hM
  have e : ∀ n, (h n - M) * (h n - M) = h n * h n - 2 * M * h n + M * M := fun n => by ring
  rw [Finset.sum_congr rfl fun n _ => e n, Finset.sum_add_distrib, Finset.sum_sub_distrib, ← Finset.mul_sum, Finset.sum_const, Finset.card_univ, Fintype.card_fin, nsmul_eq_mul, ← hC]
  have hs : ∑ n, h n = M * C := by rw [hM]; field_simp
  rw [hs]
  field_simp
  ring

/-- Every argument the statistics read is a number. -/
structure Pts.Finite (P : Pts) : Prop where
  x : ∀ n k, ∃ r : ℝ, P.x n k = (r : EReal)
  W : ∀ k j, ∃ r : ℝ, P.W k j = (r : EReal)
  b : ∀ j, ∃ r : ℝ, P.b j = (r : EReal)
  W1 : ∀ k j, ∃ r : ℝ, P.W1 k j = (r : EReal)
  gam : ∀ j, ∃ r : ℝ, P.gam j = (r : EReal)
  Ws : ∀ j n, ∃ r : ℝ, P.Ws j n = (r : EReal)
  bs : ∀ n, ∃ r : ℝ, P.bs n = (r : EReal)

theorem feat_real {x : Fin 6 → EReal} {W : Fin 6 → Fin 256 → EReal} {b : Fin 256 → EReal} (x' : Fin 6 → ℝ) (W' : Fin 6 → Fin 256 → ℝ) (b' : Fin 256 → ℝ)
    (hx : ∀ k, x k = (x' k : EReal)) (hW : ∀ k j, W k j = (W' k j : EReal)) (hb : ∀ j, b j = (b' j : EReal)) (j : Fin 256) :
    feat x W b j = ((∑ k, x' k * W' k j + b' j : ℝ) : EReal) := by
  unfold feat
  simp only [hx, hW, hb, ← EReal.coe_mul, sum_coe, ← EReal.coe_add]

theorem lse_pts (P : Pts) (h : P.Finite) (n : Fin 262144) : lseShift (P.lg n) = lsePlain (P.lg n) := by
  choose x hx using h.x
  choose W hW using h.W
  choose b hb using h.b
  choose Ws hWs using h.Ws
  choose bs hbs using h.bs
  refine lse_eq _ fun q => ⟨∑ c, (∑ k, x n k * W k c + b c) * Ws c q + bs q, ?_⟩
  unfold Pts.lg Pts.ft logits
  simp only [feat_real (x n) W b (hx n) hW hb, hWs, hbs, ← EReal.coe_mul, sum_coe, ← EReal.coe_add]

/-- The extended features and the weights of the two layers as one, as numbers. -/
def extR (x : Fin 6 → ℝ) (k : Fin 8) : ℝ := if h : k.val < 6 then x ⟨k.val, h⟩ else if k.val = 6 then 1 else 0
def augR (W : Fin 6 → Fin 256 → ℝ) (b : Fin 256 → ℝ) (w1 : Fin 256 → ℝ) (b1 : ℝ) (k : Fin 8) : ℝ :=
  ∑ d, w1 d * ((if h : k.val < 6 then W ⟨k.val, h⟩ d else 0) + if k = 6 then b d else 0) + if k = 6 then b1 else 0

/-- The two layers as one. -/
theorem aug_ext (x : Fin 6 → ℝ) (W : Fin 6 → Fin 256 → ℝ) (b w1 : Fin 256 → ℝ) (b1 : ℝ) :
    ∑ k, augR W b w1 b1 k * extR x k = ∑ d, (∑ k, x k * W k d + b d) * w1 d + b1 := by
  have e : ∀ d, (∑ k, x k * W k d + b d) * w1 d = ∑ k : Fin 6, w1 d * W k d * x k + w1 d * b d := fun d => by
    rw [add_mul, Finset.sum_mul, mul_comm (b d)]
    exact congrArg (· + _) (Finset.sum_congr rfl fun k _ => by ring)
  rw [Finset.sum_congr rfl fun d _ => e d, Finset.sum_add_distrib, Finset.sum_comm, Fin.sum_univ_eight, Fin.sum_univ_six]
  simp [augR, extR, Finset.sum_mul, show (6 : Fin 8).val = 6 from rfl, show (7 : Fin 8).val = 7 from rfl]
  ring

theorem ext_coe (x : Fin 6 → EReal) (x' : Fin 6 → ℝ) (hx : ∀ k, x k = (x' k : EReal)) (k : Fin 8) : ext x k = (extR x' k : EReal) := by
  unfold ext extR
  split
  · exact hx _
  · split <;> rfl

/-- Where the offset is a number. -/
theorem hidden_real (P : Pts) (h : P.Finite) (n : Fin 262144) (j : Fin 256) (b1 : ℝ) (hb1 : P.b1 j = (b1 : EReal)) : P.hK n j = P.hR n j := by
  choose x hx using h.x
  choose W hW using h.W
  choose b hb using h.b
  choose W1 hW1 using h.W1
  choose gam hgam using h.gam
  have hN : (262144 : ℝ) ≠ 0 := by norm_num
  -- the hidden layer before its offset, and with it
  have hH : ∀ n, hid (P.ft n) P.W1 j = ((∑ d, (∑ k, x n k * W k d + b d) * W1 d j : ℝ) : EReal) := fun n => by
    unfold hid Pts.ft
    simp only [feat_real (x n) W b (hx n) hW hb, hW1, ← EReal.coe_mul, sum_coe]
  have hext : ∀ n k, ext (P.x n) k = (extR (x n) k : EReal) := fun n k => ext_coe _ _ (hx n) k
  have haug : ∀ k, P.aug j k = (augR W b (fun d => W1 d j) b1 k : EReal) := fun k => by
    unfold Pts.aug augR
    have e1 : ∀ d, (if h : k.val < 6 then P.W ⟨k.val, h⟩ d else 0) = ((if h : k.val < 6 then W ⟨k.val, h⟩ d else 0 : ℝ) : EReal) := fun d => by
      split
      · exact hW _ _
      · rfl
    have e2 : ∀ d, (if k = 6 then P.b d else 0) = ((if k = 6 then b d else 0 : ℝ) : EReal) := fun d => by
      split
      · exact hb _
      · rfl
    have e3 : (if k = 6 then P.b1 j else 0) = ((if k = 6 then b1 else 0 : ℝ) : EReal) := by
      split
      · exact hb1
      · rfl
    simp only [e1, e2, e3, hW1, ← EReal.coe_add, ← EReal.coe_mul, sum_coe]
  have hgram : ∀ i k, P.gram i k = ((∑ n, extR (x n) i * extR (x n) k : ℝ) : EReal) := fun i k => by
    unfold Pts.gram
    simp only [hext, ← EReal.coe_mul, sum_coe]
  -- the layer with its offset
  obtain ⟨H, hHdef⟩ : ∃ H : Fin 262144 → ℝ, H = fun n => ∑ d, (∑ k, x n k * W k d + b d) * W1 d j + b1 := ⟨_, rfl⟩
  have hAE : ∀ n, ∑ k, augR W b (fun d => W1 d j) b1 k * extR (x n) k = H n := fun n => by
    rw [hHdef]; exact aug_ext (x n) W b (fun d => W1 d j) b1
  have h6 : ∀ n, extR (x n) 6 = 1 := fun n => by simp [extR, show (6 : Fin 8).val = 6 from rfl]
  have hmuK : P.muK j = (((∑ n, H n) / 262144 : ℝ) : EReal) := by
    unfold Pts.muK muOf
    simp only [haug, hgram, ← EReal.coe_mul, sum_coe]
    rw [mean_gram (fun n => extR (x n)) _ h6, count_eq, div_real _ hN]
    simp only [hAE]
  have hvarK : varOf P.gram (P.aug j) = (((∑ n, H n * H n) / 262144 - (∑ n, H n) / 262144 * ((∑ n, H n) / 262144) : ℝ) : EReal) := by
    unfold varOf
    rw [show muOf P.gram (P.aug j) = _ from hmuK]
    simp only [haug, hgram, ← EReal.coe_mul, sum_coe]
    rw [square_gram (fun n => extR (x n)), count_eq, div_real _ hN, ← EReal.coe_sub]
    simp only [hAE]
  have hhr : ∀ n, P.hr n j = (H n : EReal) := fun n => by
    unfold Pts.hr
    rw [hH, hb1, ← EReal.coe_add, hHdef]
  have hmuR : P.muR j = (((∑ n, H n) / 262144 : ℝ) : EReal) := by
    unfold Pts.muR
    simp only [hhr, sum_coe]
    rw [count_eq, div_real _ hN]
  obtain ⟨v, hv⟩ : ∃ v : ℝ, v = (∑ n, (H n - (∑ n, H n) / 262144) * (H n - (∑ n, H n) / 262144)) / 262144 := ⟨_, rfl⟩
  have hv0 : 0 ≤ v := by
    rw [hv]
    exact div_nonneg (Finset.sum_nonneg fun n _ => mul_self_nonneg _) (by norm_num)
  have hvarR : P.varR j = (v : EReal) := by
    unfold Pts.varR
    simp only [hhr, hmuR, ← EReal.coe_sub, ← EReal.coe_mul, sum_coe]
    rw [count_eq, div_real _ hN, hv]
  have hvarK' : varOf P.gram (P.aug j) = (v : EReal) := by
    rw [hvarK, hv, variance_two H 262144 (by norm_num) hN]
  obtain ⟨e, he, hee⟩ := eps3_eq
  have hsd : Ideal.sqrt ((v : EReal) + eps3) = (Real.sqrt (v + e) : EReal) := by
    rw [hee, ← EReal.coe_add, Ideal.sqrt_coe, if_neg (not_lt.mpr (by linarith))]
  have hs0 : Real.sqrt (v + e) ≠ 0 := (Real.sqrt_pos.mpr (by linarith)).ne'
  unfold Pts.hK Pts.hR Pts.bK Pts.aK Pts.sdK Pts.sdR
  rw [hvarK', hvarR, hsd, hgam, hH, hmuK, hb1, hhr, hmuR, ← EReal.coe_sub, ← EReal.coe_sub, div_real _ hs0, div_real _ hs0, ← EReal.coe_mul, ← EReal.coe_mul, ← EReal.coe_mul, ← add_assoc, ← EReal.coe_add]
  refine congrArg (fun t : ℝ => max ((t : EReal) + P.bet j) 0) ?_
  rw [hHdef]
  field_simp
  ring

/-- Where the offset is infinite: both sides are the shift alone, for the kernel's variance is minus infinity
and the reference's plus infinity, and dividing by either leaves nothing. -/
theorem hidden_inf (P : Pts) (h : P.Finite) (n : Fin 262144) (j : Fin 256) (hb1 : P.b1 j = ⊥ ∨ P.b1 j = ⊤) : P.hK n j = P.hR n j := by
  choose x hx using h.x
  choose W hW using h.W
  choose b hb using h.b
  choose W1 hW1 using h.W1
  choose gam hgam using h.gam
  obtain ⟨e, he, hee⟩ := eps3_eq
  have hN : (0 : ℝ) < 262144 := by norm_num
  have hH : ∀ n, ∃ r : ℝ, hid (P.ft n) P.W1 j = (r : EReal) := fun n => by
    unfold hid Pts.ft
    simp only [feat_real (x n) W b (hx n) hW hb, hW1, ← EReal.coe_mul, sum_coe]
    exact ⟨_, rfl⟩
  have hS : ∀ k, ∃ r : ℝ, P.gram k 6 = (r : EReal) := fun k => by
    unfold Pts.gram
    simp only [fun n k => ext_coe _ _ (hx n) k, ← EReal.coe_mul, sum_coe]
    exact ⟨_, rfl⟩
  have h66 : P.gram 6 6 = ((262144 : ℝ) : EReal) := by
    unfold Pts.gram
    simp only [fun n k => ext_coe _ _ (hx n) k, ← EReal.coe_mul, sum_coe]
    simp [extR, show (6 : Fin 8).val = 6 from rfl]
  have hw : ∀ k, k ≠ 6 → ∃ r : ℝ, P.aug j k = (r : EReal) := fun k hk => by
    have e1 : ∀ d, (if h : k.val < 6 then P.W ⟨k.val, h⟩ d else 0) = ((if h : k.val < 6 then W ⟨k.val, h⟩ d else 0 : ℝ) : EReal) := fun d => by
      split
      · exact hW _ _
      · rfl
    unfold Pts.aug
    simp only [if_neg hk, e1, hW1, add_zero, ← EReal.coe_mul, sum_coe]
    exact ⟨_, rfl⟩
  have hw6 : P.aug j 6 = P.b1 j := by
    have : ∃ r : ℝ, ∑ d, P.W1 d j * ((if h : (6 : Fin 8).val < 6 then P.W ⟨(6 : Fin 8).val, h⟩ d else 0) + if (6 : Fin 8) = 6 then P.b d else 0) = (r : EReal) := by
      simp only [show ¬ (6 : Fin 8).val < 6 by decide, dif_neg, not_false_eq_true, if_true, zero_add, hW1, hb, ← EReal.coe_mul, sum_coe]
      exact ⟨_, rfl⟩
    obtain ⟨r, hr⟩ := this
    unfold Pts.aug
    rw [hr, if_pos rfl]
    rcases hb1 with h | h <;> rw [h]
    · exact EReal.add_bot _
    · exact EReal.coe_add_top _
  have hrest : ∃ r : ℝ, ∑ k ∈ Finset.univ.erase (6 : Fin 8), P.aug j k * P.gram k 6 = (r : EReal) := by
    have : ∀ k : Fin 8, ∃ r : ℝ, k ≠ 6 → P.aug j k * P.gram k 6 = (r : EReal) := fun k => by
      by_cases hk : k = 6
      · exact ⟨0, fun h => absurd hk h⟩
      · obtain ⟨a, ha⟩ := hw k hk
        obtain ⟨s, hs⟩ := hS k
        exact ⟨a * s, fun _ => by rw [ha, hs, EReal.coe_mul]⟩
    choose r hr using this
    exact ⟨_, (Finset.sum_congr rfl fun k hk => hr k (Finset.ne_of_mem_erase hk)).trans (sum_coe _ r)⟩
  have hmu : P.muK j = P.b1 j := by
    obtain ⟨r, hr⟩ := hrest
    unfold Pts.muK muOf
    rw [← Finset.add_sum_erase _ _ (Finset.mem_univ (6 : Fin 8)), hr, hw6, h66, count_eq, Ideal.div_coe hN.ne']
    rcases hb1 with h | h <;> rw [h]
    · rw [EReal.bot_mul_coe_of_pos hN, EReal.bot_add, EReal.bot_mul_coe_of_pos (by norm_num)]
    · rw [EReal.top_mul_coe_of_pos hN, EReal.top_add_coe, EReal.top_mul_coe_of_pos (by norm_num)]
  have hvar : varOf P.gram (P.aug j) = ⊥ := by
    unfold varOf
    rw [show muOf P.gram (P.aug j) = P.b1 j from hmu]
    rcases hb1 with h | h <;> rw [h]
    · rw [EReal.bot_mul_bot, sub_eq_add_neg, EReal.neg_top, EReal.add_bot]
    · rw [EReal.top_mul_top, sub_eq_add_neg, EReal.neg_top, EReal.add_bot]
  have ha : P.aK j = 0 := by
    unfold Pts.aK Pts.sdK
    rw [hvar, EReal.bot_add, show Ideal.sqrt ⊥ = ⊥ from rfl]
    simp [Ideal.div]
  have hhr : ∀ n, P.hr n j = P.b1 j := fun n => by
    obtain ⟨r, hr⟩ := hH n
    unfold Pts.hr
    rw [hr]
    rcases hb1 with h | h <;> rw [h]
    · exact EReal.add_bot _
    · exact EReal.coe_add_top _
  have hmuR : P.muR j = P.b1 j := by
    unfold Pts.muR
    simp only [hhr]
    rw [count_eq, Ideal.div_coe hN.ne']
    rcases hb1 with h | h <;> rw [h]
    · rw [sum_bot (N := 262143), EReal.bot_mul_coe_of_pos (by norm_num)]
    · rw [sum_top (N := 262143), EReal.top_mul_coe_of_pos (by norm_num)]
  have hd : P.b1 j - P.b1 j = ⊥ := by
    rcases hb1 with h | h <;> rw [h] <;> simp [sub_eq_add_neg]
  have hvarR : P.varR j = ⊤ := by
    unfold Pts.varR
    simp only [hhr, hmuR, hd, EReal.bot_mul_bot]
    rw [sum_top (N := 262143), count_eq, Ideal.div_coe hN.ne', EReal.top_mul_coe_of_pos (by norm_num)]
  unfold Pts.hK Pts.hR Pts.bK Pts.sdR
  rw [ha, hvarR, hhr, hmuR, hd, hee, EReal.top_add_coe, show Ideal.sqrt ⊤ = ⊤ from rfl, mul_zero, mul_zero, zero_add]
  simp [Ideal.div]

theorem hidden_eq (P : Pts) (h : P.Finite) : P.hK = P.hR := by
  funext n j
  by_cases hb : P.b1 j = ⊥ ∨ P.b1 j = ⊤
  · exact hidden_inf P h n j hb
  · rw [not_or] at hb
    exact hidden_real P h n j _ (EReal.coe_toReal hb.2 hb.1).symm

/-- So the class loss agrees too. -/
theorem seg_eq (P : Pts) (h : P.Finite) : P.segOf lseShift = P.segOf lsePlain := by
  unfold Pts.segOf
  simp only [lse_pts P h]

end Cert.Points

end
-- ==== Proof.HostValue.lean ====
module

public import proofs.«01_k».proof.Proof.Run
public import Idealize.ShloMosaic.Lib.Pointwise
public import Idealize.ShloMosaic.Lib.StableHlo.Run
public import Idealize.ShloMosaic.Lib.KernelVsHost

/-! The arrays the host prepares for the loss kernel, element by element. -/

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.ShloMosaic.StableHlo

variable (m : (ℓ : Loc nD τ sig) → Buf (Elt Ideal) ℓ) (ρ : Dev nD → PrngReg)

/-- An array an argument holds, as numbers. -/
abbrev argF (s : Shape) (x : s.Idx → EReal) : s.Idx → EReal := x

theorem zero_pad (i : S_.Idx) : (sitofp (F := Ideal) .f32 (constantI S_ 32 0#32)) i = (0 : EReal) := by
  simp [sitofp, constantI, FloatOps.sitofp]

/-- A pad after the last row or column, inside what it pads. -/
theorem pad2_inside {n0 n1 p0 p1 m0 m1 : ℕ} (x : (⟨2, ![n0, n1]⟩ : Shape).Idx → EReal) (v : S_.Idx → EReal) (h : (⟨2, ![n0, n1]⟩ : Shape).Pads ![0, 0] ![p0, p1] ![0, 0] ⟨2, ![m0, m1]⟩)
    (hu : 0 < S_.numel) (i : Fin n0) (j : Fin n1) (hi : i.val < m0) (hj : j.val < m1) :
    pad ⟨2, ![m0, m1]⟩ ![0, 0] ![p0, p1] ![0, 0] x v h hu (ix2 ⟨i.val, hi⟩ ⟨j.val, hj⟩) = x (ix2 i j) :=
  pad_apply_of_inside _ _ _ x v h hu _ (ix2 i j) fun a => by
    match a with
    | ⟨0, _⟩ => show i.val = 0 + i.val * (0 + 1); omega
    | ⟨1, _⟩ => show j.val = 0 + j.val * (0 + 1); omega
theorem pad1_inside {n0 p0 m0 : ℕ} (x : (⟨1, ![n0]⟩ : Shape).Idx → EReal) (v : S_.Idx → EReal) (h : (⟨1, ![n0]⟩ : Shape).Pads ![0] ![p0] ![0] ⟨1, ![m0]⟩)
    (hu : 0 < S_.numel) (i : Fin n0) (hi : i.val < m0) :
    pad ⟨1, ![m0]⟩ ![0] ![p0] ![0] x v h hu (ix1 ⟨i.val, hi⟩) = x (ix1 i) :=
  pad_apply_of_inside _ _ _ x v h hu _ (ix1 i) fun a => by
    match a with
    | ⟨0, _⟩ => show i.val = 0 + i.val * (0 + 1); omega
/-- Below the padded rows. -/
theorem pad2_below {n0 n1 p0 p1 m0 m1 : ℕ} (x : (⟨2, ![n0, n1]⟩ : Shape).Idx → EReal) (v : S_.Idx → EReal) (h : (⟨2, ![n0, n1]⟩ : Shape).Pads ![0, 0] ![p0, p1] ![0, 0] ⟨2, ![m0, m1]⟩)
    (hu : 0 < S_.numel) (i : Fin m0) (j : Fin m1) (hi : n0 ≤ i.val) :
    pad ⟨2, ![m0, m1]⟩ ![0, 0] ![p0, p1] ![0, 0] x v h hu (ix2 i j) = v (Shape.Idx.first hu) :=
  pad_apply_of_not_inside _ _ _ x v h hu _ (0 : Fin 2) fun hc => by
    have h2 := hc.2.2
    have h3 : (i.val - 0) / (0 + 1) < n0 := h2
    omega

theorem transpose_a (x : S8x256.Idx → EReal) (i : Fin 256) (j : Fin 8) : transpose S256x8 [1, 0] x transposes_S8x256_S256x8_1_0 (ix2 i j) = x (ix2 j i) := by
  pointwise
theorem transpose_b (x : S256x256.Idx → EReal) (i : Fin 256) (j : Fin 256) : transpose S256x256 [1, 0] x transposes_S256x256_S256x256_1_0 (ix2 i j) = x (ix2 j i) := by
  pointwise
theorem transpose_c (x : S256x8.Idx → EReal) (i : Fin 8) (j : Fin 256) : transpose S8x256 [1, 0] x transposes_S256x8_S8x256_1_0 (ix2 i j) = x (ix2 j i) := by
  pointwise
theorem transpose_d (x : S256x32.Idx → EReal) (i : Fin 32) (j : Fin 256) : transpose S32x256 [1, 0] x transposes_S256x32_S32x256_1_0 (ix2 i j) = x (ix2 j i) := by
  pointwise
theorem column_a (x : S8.Idx → EReal) (i : Fin 8) : broadcastInDim S8x1 ![0] bcast_S8_S8x1_0 x (ix2 i 0) = x (ix1 i) := by
  pointwise
theorem column_b (x : S32.Idx → EReal) (i : Fin 32) : broadcastInDim S32x1 ![0] bcast_S32_S32x1_0 x (ix2 i 0) = x (ix1 i) := by
  pointwise

theorem v1_eq (c : Dev nD) : V14 m ρ c main_v1 = concatenate S262144x6 1 [⟨S262144x3, (m ((c.tc : Thread nD τ).loc main_arg0) : S262144x3.Idx → EReal)⟩, ⟨S262144x3, (m ((c.tc : Thread nD τ).loc main_arg3) : S262144x3.Idx → EReal)⟩] concatenates_S262144x3_S262144x3_S262144x6_d1 := by
  refine (show V14 m ρ c main_v1 = W2 m ρ c (Proc.devRef .tc main_v1) from ((((((((((((W14_of m ρ c main_v1 (by decide)).trans (W13_of m ρ c main_v1 (by decide))).trans (W12_of m ρ c main_v1 (by decide))).trans (W11_of m ρ c main_v1 (by decide))).trans (W10_of m ρ c main_v1 (by decide))).trans (W9_of m ρ c main_v1 (by decide))).trans (W8_of m ρ c main_v1 (by decide))).trans (W7_of m ρ c main_v1 (by decide))).trans (W6_of m ρ c main_v1 (by decide))).trans (W5_of m ρ c main_v1 (by decide))).trans (W4_of m ρ c main_v1 (by decide))).trans (W3_of m ρ c main_v1 (by decide)))).trans ?_
  unfold W2
  after_results
  refine Eq.trans (b := concatenate S262144x6 1 [⟨S262144x3, (W1 m ρ c (Proc.devRef .tc main_arg0) : S262144x3.Idx → EReal)⟩, ⟨S262144x3, (W1 m ρ c (Proc.devRef .tc main_arg3) : S262144x3.Idx → EReal)⟩] concatenates_S262144x3_S262144x3_S262144x6_d1) rfl ?_
  rw [W1_args m ρ c main_arg0 (by decide)]
  rw [W1_args m ρ c main_arg3 (by decide)]

theorem v3_eq (c : Dev nD) : V14 m ρ c main_v3 = transpose S256x8 [1, 0] (pad S8x256 ![0, 0] ![2, 0] ![0, 0] (m ((c.tc : Thread nD τ).loc main_arg7) : S6x256.Idx → EReal) (sitofp (F := Ideal) .f32 (constantI S_ 32 0#32)) pads_S6x256_S8x256_020_000 h_S_) transposes_S8x256_S256x8_1_0 := by
  refine (show V14 m ρ c main_v3 = W4 m ρ c (Proc.devRef .tc main_v3) from ((((((((((W14_of m ρ c main_v3 (by decide)).trans (W13_of m ρ c main_v3 (by decide))).trans (W12_of m ρ c main_v3 (by decide))).trans (W11_of m ρ c main_v3 (by decide))).trans (W10_of m ρ c main_v3 (by decide))).trans (W9_of m ρ c main_v3 (by decide))).trans (W8_of m ρ c main_v3 (by decide))).trans (W7_of m ρ c main_v3 (by decide))).trans (W6_of m ρ c main_v3 (by decide))).trans (W5_of m ρ c main_v3 (by decide)))).trans ?_
  unfold W4
  after_results
  refine Eq.trans (b := transpose S256x8 [1, 0] (pad S8x256 ![0, 0] ![2, 0] ![0, 0] (W1 m ρ c (Proc.devRef .tc main_arg7) : S6x256.Idx → EReal) (sitofp (F := Ideal) .f32 (constantI S_ 32 0#32)) pads_S6x256_S8x256_020_000 h_S_) transposes_S8x256_S256x8_1_0) rfl ?_
  rw [W1_args m ρ c main_arg7 (by decide)]

theorem v4_eq (c : Dev nD) : V14 m ρ c main_v4 = broadcastInDim S256x1 ![0] bcast_S256_S256x1_0 (m ((c.tc : Thread nD τ).loc main_arg8) : S256.Idx → EReal) := by
  refine (show V14 m ρ c main_v4 = W4 m ρ c (Proc.devRef .tc main_v4) from ((((((((((W14_of m ρ c main_v4 (by decide)).trans (W13_of m ρ c main_v4 (by decide))).trans (W12_of m ρ c main_v4 (by decide))).trans (W11_of m ρ c main_v4 (by decide))).trans (W10_of m ρ c main_v4 (by decide))).trans (W9_of m ρ c main_v4 (by decide))).trans (W8_of m ρ c main_v4 (by decide))).trans (W7_of m ρ c main_v4 (by decide))).trans (W6_of m ρ c main_v4 (by decide))).trans (W5_of m ρ c main_v4 (by decide)))).trans ?_
  unfold W4
  after_results
  refine Eq.trans (b := broadcastInDim S256x1 ![0] bcast_S256_S256x1_0 (W1 m ρ c (Proc.devRef .tc main_arg8) : S256.Idx → EReal)) rfl ?_
  rw [W1_args m ρ c main_arg8 (by decide)]

theorem v5_eq (c : Dev nD) : V14 m ρ c main_v5 = transpose S256x256 [1, 0] (m ((c.tc : Thread nD τ).loc main_arg9) : S256x256.Idx → EReal) transposes_S256x256_S256x256_1_0 := by
  refine (show V14 m ρ c main_v5 = W4 m ρ c (Proc.devRef .tc main_v5) from ((((((((((W14_of m ρ c main_v5 (by decide)).trans (W13_of m ρ c main_v5 (by decide))).trans (W12_of m ρ c main_v5 (by decide))).trans (W11_of m ρ c main_v5 (by decide))).trans (W10_of m ρ c main_v5 (by decide))).trans (W9_of m ρ c main_v5 (by decide))).trans (W8_of m ρ c main_v5 (by decide))).trans (W7_of m ρ c main_v5 (by decide))).trans (W6_of m ρ c main_v5 (by decide))).trans (W5_of m ρ c main_v5 (by decide)))).trans ?_
  unfold W4
  after_results
  refine Eq.trans (b := transpose S256x256 [1, 0] (W1 m ρ c (Proc.devRef .tc main_arg9) : S256x256.Idx → EReal) transposes_S256x256_S256x256_1_0) rfl ?_
  rw [W1_args m ρ c main_arg9 (by decide)]

theorem v10_eq (c : Dev nD) : V14 m ρ c main_v10 = pad S256x8 ![0, 0] ![0, 5] ![0, 0] (concatenate S256x3 1 [⟨S256x1, broadcastInDim S256x1 ![0] bcast_S256_S256x1_0 (m ((c.tc : Thread nD τ).loc main_arg11) : S256.Idx → EReal)⟩, ⟨S256x1, broadcastInDim S256x1 ![0] bcast_S256_S256x1_0 (m ((c.tc : Thread nD τ).loc main_arg12) : S256.Idx → EReal)⟩, ⟨S256x1, broadcastInDim S256x1 ![0] bcast_S256_S256x1_0 (m ((c.tc : Thread nD τ).loc main_arg10) : S256.Idx → EReal)⟩] concatenates_S256x1_S256x1_S256x1_S256x3_d1) (sitofp (F := Ideal) .f32 (constantI S_ 32 0#32)) pads_S256x3_S256x8_000_050 h_S_ := by
  refine (show V14 m ρ c main_v10 = W5 m ρ c (Proc.devRef .tc main_v10) from (((((((((W14_of m ρ c main_v10 (by decide)).trans (W13_of m ρ c main_v10 (by decide))).trans (W12_of m ρ c main_v10 (by decide))).trans (W11_of m ρ c main_v10 (by decide))).trans (W10_of m ρ c main_v10 (by decide))).trans (W9_of m ρ c main_v10 (by decide))).trans (W8_of m ρ c main_v10 (by decide))).trans (W7_of m ρ c main_v10 (by decide))).trans (W6_of m ρ c main_v10 (by decide)))).trans ?_
  unfold W5
  after_results
  refine Eq.trans (b := pad S256x8 ![0, 0] ![0, 5] ![0, 0] (concatenate S256x3 1 [⟨S256x1, broadcastInDim S256x1 ![0] bcast_S256_S256x1_0 (W1 m ρ c (Proc.devRef .tc main_arg11) : S256.Idx → EReal)⟩, ⟨S256x1, broadcastInDim S256x1 ![0] bcast_S256_S256x1_0 (W1 m ρ c (Proc.devRef .tc main_arg12) : S256.Idx → EReal)⟩, ⟨S256x1, broadcastInDim S256x1 ![0] bcast_S256_S256x1_0 (W1 m ρ c (Proc.devRef .tc main_arg10) : S256.Idx → EReal)⟩] concatenates_S256x1_S256x1_S256x1_S256x3_d1) (sitofp (F := Ideal) .f32 (constantI S_ 32 0#32)) pads_S256x3_S256x8_000_050 h_S_) rfl ?_
  rw [W1_args m ρ c main_arg11 (by decide)]
  rw [W1_args m ρ c main_arg12 (by decide)]
  rw [W1_args m ρ c main_arg10 (by decide)]

theorem v16_eq (c : Dev nD) : V14 m ρ c main_v16 = uitofp (F := Ideal) .f32 (cmpi .eq (addi (iotaInDim S8x3 32 0) (broadcastInDim S8x3 ![] bcast_S_S8x3 (constantI S_ 32 0#32))) (iotaInDim S8x3 32 1)) := by
  refine (show V14 m ρ c main_v16 = W6 m ρ c (Proc.devRef .tc main_v16) from ((((((((W14_of m ρ c main_v16 (by decide)).trans (W13_of m ρ c main_v16 (by decide))).trans (W12_of m ρ c main_v16 (by decide))).trans (W11_of m ρ c main_v16 (by decide))).trans (W10_of m ρ c main_v16 (by decide))).trans (W9_of m ρ c main_v16 (by decide))).trans (W8_of m ρ c main_v16 (by decide))).trans (W7_of m ρ c main_v16 (by decide)))).trans ?_
  unfold W6
  after_results

theorem v18_eq (c : Dev nD) : V14 m ρ c main_v18 = transpose S8x256 [1, 0] (pad S256x8 ![0, 0] ![0, 5] ![0, 0] (m ((c.tc : Thread nD τ).loc main_arg13) : S256x3.Idx → EReal) (sitofp (F := Ideal) .f32 (constantI S_ 32 0#32)) pads_S256x3_S256x8_000_050 h_S_) transposes_S256x8_S8x256_1_0 := by
  refine (show V14 m ρ c main_v18 = W8 m ρ c (Proc.devRef .tc main_v18) from ((((((W14_of m ρ c main_v18 (by decide)).trans (W13_of m ρ c main_v18 (by decide))).trans (W12_of m ρ c main_v18 (by decide))).trans (W11_of m ρ c main_v18 (by decide))).trans (W10_of m ρ c main_v18 (by decide))).trans (W9_of m ρ c main_v18 (by decide)))).trans ?_
  unfold W8
  after_results
  refine Eq.trans (b := transpose S8x256 [1, 0] (pad S256x8 ![0, 0] ![0, 5] ![0, 0] (W1 m ρ c (Proc.devRef .tc main_arg13) : S256x3.Idx → EReal) (sitofp (F := Ideal) .f32 (constantI S_ 32 0#32)) pads_S256x3_S256x8_000_050 h_S_) transposes_S256x8_S8x256_1_0) rfl ?_
  rw [W1_args m ρ c main_arg13 (by decide)]

theorem v20_eq (c : Dev nD) : V14 m ρ c main_v20 = broadcastInDim S8x1 ![0] bcast_S8_S8x1_0 (pad S8 ![0] ![5] ![0] (m ((c.tc : Thread nD τ).loc main_arg14) : S3.Idx → EReal) (sitofp (F := Ideal) .f32 (constantI S_ 32 0#32)) pads_S3_S8_050 h_S_) := by
  refine (show V14 m ρ c main_v20 = W10 m ρ c (Proc.devRef .tc main_v20) from ((((W14_of m ρ c main_v20 (by decide)).trans (W13_of m ρ c main_v20 (by decide))).trans (W12_of m ρ c main_v20 (by decide))).trans (W11_of m ρ c main_v20 (by decide)))).trans ?_
  unfold W10
  after_results
  refine Eq.trans (b := broadcastInDim S8x1 ![0] bcast_S8_S8x1_0 (pad S8 ![0] ![5] ![0] (W1 m ρ c (Proc.devRef .tc main_arg14) : S3.Idx → EReal) (sitofp (F := Ideal) .f32 (constantI S_ 32 0#32)) pads_S3_S8_050 h_S_)) rfl ?_
  rw [W1_args m ρ c main_arg14 (by decide)]

theorem v22_eq (c : Dev nD) : V14 m ρ c main_v22 = transpose S32x256 [1, 0] (pad S256x32 ![0, 0] ![0, 12] ![0, 0] (m ((c.tc : Thread nD τ).loc main_arg15) : S256x20.Idx → EReal) (sitofp (F := Ideal) .f32 (constantI S_ 32 0#32)) pads_S256x20_S256x32_000_0120 h_S_) transposes_S256x32_S32x256_1_0 := by
  refine (show V14 m ρ c main_v22 = W12 m ρ c (Proc.devRef .tc main_v22) from ((W14_of m ρ c main_v22 (by decide)).trans (W13_of m ρ c main_v22 (by decide)))).trans ?_
  unfold W12
  after_results
  refine Eq.trans (b := transpose S32x256 [1, 0] (pad S256x32 ![0, 0] ![0, 12] ![0, 0] (W1 m ρ c (Proc.devRef .tc main_arg15) : S256x20.Idx → EReal) (sitofp (F := Ideal) .f32 (constantI S_ 32 0#32)) pads_S256x20_S256x32_000_0120 h_S_) transposes_S256x32_S32x256_1_0) rfl ?_
  rw [W1_args m ρ c main_arg15 (by decide)]

theorem v24_eq (c : Dev nD) : V14 m ρ c main_v24 = broadcastInDim S32x1 ![0] bcast_S32_S32x1_0 (pad S32 ![0] ![12] ![0] (m ((c.tc : Thread nD τ).loc main_arg16) : S20.Idx → EReal) (sitofp (F := Ideal) .f32 (constantI S_ 32 0#32)) pads_S20_S32_0120 h_S_) := by
  refine (show V14 m ρ c main_v24 = W14 m ρ c (Proc.devRef .tc main_v24) from rfl).trans ?_
  unfold W14
  after_results
  refine Eq.trans (b := broadcastInDim S32x1 ![0] bcast_S32_S32x1_0 (pad S32 ![0] ![12] ![0] (W1 m ρ c (Proc.devRef .tc main_arg16) : S20.Idx → EReal) (sitofp (F := Ideal) .f32 (constantI S_ 32 0#32)) pads_S20_S32_0120 h_S_)) rfl ?_
  rw [W1_args m ρ c main_arg16 (by decide)]

theorem v1_pos (c : Dev nD) (n : Fin 262144) (q : Fin 3) : argF S262144x6 (V14 m ρ c main_v1) (ix2 n ⟨q.val, by omega⟩) = (argF S262144x3 (m ((c.tc : Thread nD τ).loc main_arg0))) (ix2 n q) := by
  rw [v1_eq]
  unfold argF
  pointwise
theorem v1_ctr (c : Dev nD) (n : Fin 262144) (q : Fin 3) : argF S262144x6 (V14 m ρ c main_v1) (ix2 n ⟨3 + q.val, by omega⟩) = (argF S262144x3 (m ((c.tc : Thread nD τ).loc main_arg3))) (ix2 n q) := by
  rw [v1_eq]
  unfold argF
  pointwise
theorem v3_in (c : Dev nD) (j : Fin 256) (k : Fin 6) : argF S256x8 (V14 m ρ c main_v3) (ix2 j ⟨k.val, by omega⟩) = (argF S6x256 (m ((c.tc : Thread nD τ).loc main_arg7))) (ix2 k j) := by
  rw [v3_eq]
  unfold argF
  rw [transpose_a]
  exact pad2_inside _ _ _ _ k j _ _
theorem v3_out (c : Dev nD) (j : Fin 256) (k : Fin 8) (hk : 6 ≤ k.val) : argF S256x8 (V14 m ρ c main_v3) (ix2 j k) = 0 := by
  rw [v3_eq]
  unfold argF
  rw [transpose_a, pad2_below _ _ _ _ k j hk, zero_pad]
theorem v4_at (c : Dev nD) (j : Fin 256) : argF S256x1 (V14 m ρ c main_v4) (ix2 j 0) = (argF S256 (m ((c.tc : Thread nD τ).loc main_arg8))) (ix1 j) := by
  rw [v4_eq]
  unfold argF
  pointwise
theorem v5_at (c : Dev nD) (j k : Fin 256) : argF S256x256 (V14 m ρ c main_v5) (ix2 j k) = (argF S256x256 (m ((c.tc : Thread nD τ).loc main_arg9))) (ix2 k j) := by
  rw [v5_eq]
  unfold argF
  rw [transpose_b]
theorem v10_at0 (c : Dev nD) (j : Fin 256) : argF S256x8 (V14 m ρ c main_v10) (ix2 j 0) = (argF S256 (m ((c.tc : Thread nD τ).loc main_arg11))) (ix1 j) := by
  rw [v10_eq]
  unfold argF
  refine (pad2_inside _ _ _ _ j (0 : Fin 3) _ (by decide)).trans ?_
  pointwise
  try simp
  try rfl
theorem v10_at1 (c : Dev nD) (j : Fin 256) : argF S256x8 (V14 m ρ c main_v10) (ix2 j 1) = (argF S256 (m ((c.tc : Thread nD τ).loc main_arg12))) (ix1 j) := by
  rw [v10_eq]
  unfold argF
  refine (pad2_inside _ _ _ _ j (1 : Fin 3) _ (by decide)).trans ?_
  pointwise
  try simp
  try rfl
theorem v10_at2 (c : Dev nD) (j : Fin 256) : argF S256x8 (V14 m ρ c main_v10) (ix2 j 2) = (argF S256 (m ((c.tc : Thread nD τ).loc main_arg10))) (ix1 j) := by
  rw [v10_eq]
  unfold argF
  refine (pad2_inside _ _ _ _ j (2 : Fin 3) _ (by decide)).trans ?_
  pointwise
  try simp
  try rfl
theorem v16_at (c : Dev nD) (q k : Fin 3) : argF S8x3 (V14 m ρ c main_v16) (ix2 ⟨q.val, by omega⟩ k) = if q = k then 1 else 0 := by
  rw [v16_eq]
  unfold argF
  pointwise
  have e : ∀ q k : Fin 3, IntOp.cmpi CmpIPredicate.eq (IntOp.addi (BitVec.ofNat 32 q.val) 0#32) (BitVec.ofNat 32 k.val) = if q = k then 1#1 else 0#1 := by decide
  rw [e]
  by_cases h : q = k <;> simp [h, FloatOps.uitofp]
theorem v18_at (c : Dev nD) (q : Fin 3) (j : Fin 256) : argF S8x256 (V14 m ρ c main_v18) (ix2 ⟨q.val, by omega⟩ j) = (argF S256x3 (m ((c.tc : Thread nD τ).loc main_arg13))) (ix2 j q) := by
  rw [v18_eq]
  unfold argF
  rw [transpose_c]
  exact pad2_inside _ _ _ _ j q _ _
theorem v20_at (c : Dev nD) (q : Fin 3) : argF S8x1 (V14 m ρ c main_v20) (ix2 ⟨q.val, by omega⟩ 0) = (argF S3 (m ((c.tc : Thread nD τ).loc main_arg14))) (ix1 q) := by
  rw [v20_eq]
  unfold argF
  rw [column_a]
  exact pad1_inside _ _ _ _ q _
theorem v22_at (c : Dev nD) (n : Fin 20) (j : Fin 256) : argF S32x256 (V14 m ρ c main_v22) (ix2 ⟨n.val, by omega⟩ j) = (argF S256x20 (m ((c.tc : Thread nD τ).loc main_arg15))) (ix2 j n) := by
  rw [v22_eq]
  unfold argF
  rw [transpose_d]
  exact pad2_inside _ _ _ _ j n _ _
theorem v24_at (c : Dev nD) (n : Fin 20) : argF S32x1 (V14 m ρ c main_v24) (ix2 ⟨n.val, by omega⟩ 0) = (argF S20 (m ((c.tc : Thread nD τ).loc main_arg16))) (ix1 n) := by
  rw [v24_eq]
  unfold argF
  rw [column_b]
  exact pad1_inside _ _ _ _ n _
end Cert.KernelIdeal.Val

end
-- ==== Proof.Blocks.lean ====
module

public import proofs.«01_k».proof.Proof.HostValue

/-! The blocks of the two calls' windows, element by element, in the arrays the calls find. -/

@[expose] public section

set_option maxRecDepth 16384

noncomputable section

namespace Cert.KernelIdeal.Val

open Cert.KernelIdeal Cert.KernelIdeal.Gen Cert.KernelIdeal.Run
open Idealize.ShloMosaic Idealize.ShloMosaic.TcCoe

variable (V : (c : Dev nD) → (b : Ref sig .tc) → Buf (Elt Ideal) ((c : Thread nD τ).loc b))

theorem lt_pts (t : ℕ) (l : ℕ) (ht : t < 64) (hl : l < 4096) : t * 4096 + l < 262144 := by omega
theorem lt_pts8 (t : ℕ) (l : ℕ) (ht : t < 8) (hl : l < 32768) : t * 32768 + l < 262144 := by omega

theorem index0_0 : ∀ t : Fin cfg0.N, win0_0.index t (0 : Fin 2) = t.val ∧ win0_0.index t (1 : Fin 2) = 0 := (by decide +kernel : ∀ t : Fin grid0.N, _)
theorem emb0_0 (t : Fin cfg0.N) (l : Fin 32768) (k : Fin 6) : ((cfg0.win 0).blk t).view.emb (ix2 l k : S32768x6.Idx) = (ix2 ⟨t.val * 32768 + l.val, lt_pts8 _ _ (t.isLt.trans_eq N_0) l.isLt⟩ k : S262144x6.Idx) := by
  obtain ⟨e0, e1⟩ := index0_0 t
  funext a; apply Fin.ext
  match a with
  | ⟨0, _⟩ => show win0_0.index t (0 : Fin 2) * 32768 + 1 * l.val = t.val * 32768 + l.val; omega
  | ⟨1, _⟩ => show win0_0.index t (1 : Fin 2) * 6 + 1 * k.val = k.val; omega
theorem blk0_0 (c : Dev nD) (t : Fin cfg0.N) (l : Fin 32768) (k : Fin 6) :
    (iblk0 V c 0 t : S32768x6.Idx → EReal) (ix2 l k) = argF S262144x6 (V c main_arg6) (ix2 ⟨t.val * 32768 + l.val, lt_pts8 _ _ (t.isLt.trans_eq N_0) l.isLt⟩ k) := by
  show argF S262144x6 (V c main_arg6) (((cfg0.win 0).blk t).view.emb (ix2 l k : S32768x6.Idx)) = _
  rw [emb0_0]

theorem index1_0 : ∀ t : Fin cfg1.N, win1_0.index t (0 : Fin 2) = t.val ∧ win1_0.index t (1 : Fin 2) = 0 := (by decide +kernel : ∀ t : Fin grid1.N, _)
theorem emb1_0 (t : Fin cfg1.N) (l : Fin 4096) (k : Fin 6) : ((cfg1.win 0).blk t).view.emb (ix2 l k : S4096x6.Idx) = (ix2 ⟨t.val * 4096 + l.val, lt_pts _ _ (t.isLt.trans_eq N_1) l.isLt⟩ k : S262144x6.Idx) := by
  obtain ⟨e0, e1⟩ := index1_0 t
  funext a; apply Fin.ext
  match a with
  | ⟨0, _⟩ => show win1_0.index t (0 : Fin 2) * 4096 + 1 * l.val = t.val * 4096 + l.val; omega
  | ⟨1, _⟩ => show win1_0.index t (1 : Fin 2) * 6 + 1 * k.val = k.val; omega
theorem blk1_0 (c : Dev nD) (t : Fin cfg1.N) (l : Fin 4096) (k : Fin 6) :
    (iblk1 V c 0 t : S4096x6.Idx → EReal) (ix2 l k) = argF S262144x6 (V c main_arg6) (ix2 ⟨t.val * 4096 + l.val, lt_pts _ _ (t.isLt.trans_eq N_1) l.isLt⟩ k) := by
  show argF S262144x6 (V c main_arg6) (((cfg1.win 0).blk t).view.emb (ix2 l k : S4096x6.Idx)) = _
  rw [emb1_0]

theorem index1_1 : ∀ t : Fin cfg1.N, win1_1.index t (0 : Fin 2) = t.val ∧ win1_1.index t (1 : Fin 2) = 0 := (by decide +kernel : ∀ t : Fin grid1.N, _)
theorem emb1_1 (t : Fin cfg1.N) (l : Fin 4096) (k : Fin 6) : ((cfg1.win 1).blk t).view.emb (ix2 l k : S4096x6.Idx) = (ix2 ⟨t.val * 4096 + l.val, lt_pts _ _ (t.isLt.trans_eq N_1) l.isLt⟩ k : S262144x6.Idx) := by
  obtain ⟨e0, e1⟩ := index1_1 t
  funext a; apply Fin.ext
  match a with
  | ⟨0, _⟩ => show win1_1.index t (0 : Fin 2) * 4096 + 1 * l.val = t.val * 4096 + l.val; omega
  | ⟨1, _⟩ => show win1_1.index t (1 : Fin 2) * 6 + 1 * k.val = k.val; omega
theorem blk1_1 (c : Dev nD) (t : Fin cfg1.N) (l : Fin 4096) (k : Fin 6) :
    (iblk1 V c 1 t : S4096x6.Idx → EReal) (ix2 l k) = argF S262144x6 (V c main_v1) (ix2 ⟨t.val * 4096 + l.val, lt_pts _ _ (t.isLt.trans_eq N_1) l.isLt⟩ k) := by
  show argF S262144x6 (V c main_v1) (((cfg1.win 1).blk t).view.emb (ix2 l k : S4096x6.Idx)) = _
  rw [emb1_1]

theorem index1_2 : ∀ t : Fin cfg1.N, win1_2.index t (0 : Fin 1) = t.val := (by decide +kernel : ∀ t : Fin grid1.N, _)
theorem emb1_2 (t : Fin cfg1.N) (l : Fin 4096) : ((cfg1.win 2).blk t).view.emb (ix1 l : S4096.Idx) = (ix1 ⟨t.val * 4096 + l.val, lt_pts _ _ (t.isLt.trans_eq N_1) l.isLt⟩ : S262144.Idx) := by
  have e0 := index1_2 t
  funext a; apply Fin.ext
  match a with
  | ⟨0, _⟩ => show win1_2.index t (0 : Fin 1) * 4096 + 1 * l.val = t.val * 4096 + l.val; omega
theorem blk1_2 (c : Dev nD) (t : Fin cfg1.N) (l : Fin 4096) :
    (iblk1 V c 2 t : S4096.Idx → BitVec 32) (ix1 l) = (V c main_arg1 : S262144.Idx → BitVec 32) (ix1 ⟨t.val * 4096 + l.val, lt_pts _ _ (t.isLt.trans_eq N_1) l.isLt⟩) := by
  show (V c main_arg1 : S262144.Idx → BitVec 32) (((cfg1.win 2).blk t).view.emb (ix1 l : S4096.Idx)) = _
  rw [emb1_2]

theorem index1_3 : ∀ t : Fin cfg1.N, win1_3.index t (0 : Fin 1) = t.val := (by decide +kernel : ∀ t : Fin grid1.N, _)
theorem emb1_3 (t : Fin cfg1.N) (l : Fin 4096) : ((cfg1.win 3).blk t).view.emb (ix1 l : S4096.Idx) = (ix1 ⟨t.val * 4096 + l.val, lt_pts _ _ (t.isLt.trans_eq N_1) l.isLt⟩ : S262144.Idx) := by
  have e0 := index1_3 t
  funext a; apply Fin.ext
  match a with
  | ⟨0, _⟩ => show win1_3.index t (0 : Fin 1) * 4096 + 1 * l.val = t.val * 4096 + l.val; omega
theorem blk1_3 (c : Dev nD) (t : Fin cfg1.N) (l : Fin 4096) :
    (iblk1 V c 3 t : S4096.Idx → BitVec 32) (ix1 l) = (V c main_arg2 : S262144.Idx → BitVec 32) (ix1 ⟨t.val * 4096 + l.val, lt_pts _ _ (t.isLt.trans_eq N_1) l.isLt⟩) := by
  show (V c main_arg2 : S262144.Idx → BitVec 32) (((cfg1.win 3).blk t).view.emb (ix1 l : S4096.Idx)) = _
  rw [emb1_3]

theorem index1_4 : ∀ t : Fin cfg1.N, win1_4.index t (0 : Fin 2) = 0 ∧ win1_4.index t (1 : Fin 2) = 0 := (by decide +kernel : ∀ t : Fin grid1.N, _)
theorem emb1_4 (t : Fin cfg1.N) (j : S8x128.Idx) : ((cfg1.win 4).blk t).view.emb j = j := by
  obtain ⟨e0, e1⟩ := index1_4 t
  funext a; apply Fin.ext
  match a with
  | ⟨0, _⟩ => show win1_4.index t (0 : Fin 2) * 8 + 1 * (j 0).val = (j 0).val; omega
  | ⟨1, _⟩ => show win1_4.index t (1 : Fin 2) * 128 + 1 * (j 1).val = (j 1).val; omega
theorem blk1_4 (c : Dev nD) (t : Fin cfg1.N) : iblk1 V c 4 t = V c main_v0 := by
  funext j
  show V c main_v0 (((cfg1.win 4).blk t).view.emb j) = _
  rw [emb1_4]

theorem index1_5 : ∀ t : Fin cfg1.N, win1_5.index t (0 : Fin 2) = 0 ∧ win1_5.index t (1 : Fin 2) = 0 := (by decide +kernel : ∀ t : Fin grid1.N, _)
theorem emb1_5 (t : Fin cfg1.N) (j : S256x8.Idx) : ((cfg1.win 5).blk t).view.emb j = j := by
  obtain ⟨e0, e1⟩ := index1_5 t
  funext a; apply Fin.ext
  match a with
  | ⟨0, _⟩ => show win1_5.index t (0 : Fin 2) * 256 + 1 * (j 0).val = (j 0).val; omega
  | ⟨1, _⟩ => show win1_5.index t (1 : Fin 2) * 8 + 1 * (j 1).val = (j 1).val; omega
theorem blk1_5 (c : Dev nD) (t : Fin cfg1.N) : iblk1 V c 5 t = V c main_v3 := by
  funext j
  show V c main_v3 (((cfg1.win 5).blk t).view.emb j) = _
  rw [emb1_5]

theorem index1_6 : ∀ t : Fin cfg1.N, win1_6.index t (0 : Fin 2) = 0 ∧ win1_6.index t (1 : Fin 2) = 0 := (by decide +kernel : ∀ t : Fin grid1.N, _)
theorem emb1_6 (t : Fin cfg1.N) (j : S256x1.Idx) : ((cfg1.win 6).blk t).view.emb j = j := by
  obtain ⟨e0, e1⟩ := index1_6 t
  funext a; apply Fin.ext
  match a with
  | ⟨0, _⟩ => show win1_6.index t (0 : Fin 2) * 256 + 1 * (j 0).val = (j 0).val; omega
  | ⟨1, _⟩ => show win1_6.index t (1 : Fin 2) * 1 + 1 * (j 1).val = (j 1).val; omega
theorem blk1_6 (c : Dev nD) (t : Fin cfg1.N) : iblk1 V c 6 t = V c main_v4 := by
  funext j
  show V c main_v4 (((cfg1.win 6).blk t).view.emb j) = _
  rw [emb1_6]

theorem index1_7 : ∀ t : Fin cfg1.N, win1_7.index t (0 : Fin 2) = 0 ∧ win1_7.index t (1 : Fin 2) = 0 := (by decide +kernel : ∀ t : Fin grid1.N, _)
theorem emb1_7 (t : Fin cfg1.N) (j : S256x256.Idx) : ((cfg1.win 7).blk t).view.emb j = j := by
  obtain ⟨e0, e1⟩ := index1_7 t
  funext a; apply Fin.ext
  match a with
  | ⟨0, _⟩ => show win1_7.index t (0 : Fin 2) * 256 + 1 * (j 0).val = (j 0).val; omega
  | ⟨1, _⟩ => show win1_7.index t (1 : Fin 2) * 256 + 1 * (j 1).val = (j 1).val; omega
theorem blk1_7 (c : Dev nD) (t : Fin cfg1.N) : iblk1 V c 7 t = V c main_v5 := by
  funext j
  show V c main_v5 (((cfg1.win 7).blk t).view.emb j) = _
  rw [emb1_7]

theorem index1_8 : ∀ t : Fin cfg1.N, win1_8.index t (0 : Fin 2) = 0 ∧ win1_8.index t (1 : Fin 2) = 0 := (by decide +kernel : ∀ t : Fin grid1.N, _)
theorem emb1_8 (t : Fin cfg1.N) (j : S256x8.Idx) : ((cfg1.win 8).blk t).view.emb j = j := by
  obtain ⟨e0, e1⟩ := index1_8 t
  funext a; apply Fin.ext
  match a with
  | ⟨0, _⟩ => show win1_8.index t (0 : Fin 2) * 256 + 1 * (j 0).val = (j 0).val; omega
  | ⟨1, _⟩ => show win1_8.index t (1 : Fin 2) * 8 + 1 * (j 1).val = (j 1).val; omega
theorem blk1_8 (c : Dev nD) (t : Fin cfg1.N) : iblk1 V c 8 t = V c main_v10 := by
  funext j
  show V c main_v10 (((cfg1.win 8).blk t).view.emb j) = _
  rw [emb1_8]

theorem index1_9 : ∀ t : Fin cfg1.N, win1_9.index t (0 : Fin 2) = 0 ∧ win1_9.index t (1 : Fin 2) = 0 := (by decide +kernel : ∀ t : Fin grid1.N, _)
theorem emb1_9 (t : Fin cfg1.N) (j : S8x3.Idx) : ((cfg1.win 9).blk t).view.emb j = j := by
  obtain ⟨e0, e1⟩ := index1_9 t
  funext a; apply Fin.ext
  match a with
  | ⟨0, _⟩ => show win1_9.index t (0 : Fin 2) * 8 + 1 * (j 0).val = (j 0).val; omega
  | ⟨1, _⟩ => show win1_9.index t (1 : Fin 2) * 3 + 1 * (j 1).val = (j 1).val; omega
theorem blk1_9 (c : Dev nD) (t : Fin cfg1.N) : iblk1 V c 9 t = V c main_v16 := by
  funext j
  show V c main_v16 (((cfg1.win 9).blk t).view.emb j) = _
  rw [emb1_9]

theorem index1_10 : ∀ t : Fin cfg1.N, win1_10.index t (0 : Fin 2) = 0 ∧ win1_10.index t (1 : Fin 2) = 0 := (by decide +kernel : ∀ t : Fin grid1.N, _)
theorem emb1_10 (t : Fin cfg1.N) (j : S8x256.Idx) : ((cfg1.win 10).blk t).view.emb j = j := by
  obtain ⟨e0, e1⟩ := index1_10 t
  funext a; apply Fin.ext
  match a with
  | ⟨0, _⟩ => show win1_10.index t (0 : Fin 2) * 8 + 1 * (j 0).val = (j 0).val; omega
  | ⟨1, _⟩ => show win1_10.index t (1 : Fin 2) * 256 + 1 * (j 1).val = (j 1).val; omega
theorem blk1_10 (c : Dev nD) (t : Fin cfg1.N) : iblk1 V c 10 t = V c main_v18 := by
  funext j
  show V c main_v18 (((cfg1.win 10).blk t).view.emb j) = _
  rw [emb1_10]

theorem index1_11 : ∀ t : Fin cfg1.N, win1_11.index t (0 : Fin 2) = 0 ∧ win1_11.index t (1 : Fin 2) = 0 := (by decide +kernel : ∀ t : Fin grid1.N, _)
theorem emb1_11 (t : Fin cfg1.N) (j : S8x1.Idx) : ((cfg1.win 11).blk t).view.emb j = j := by
  obtain ⟨e0, e1⟩ := index1_11 t
  funext a; apply Fin.ext
  match a with
  | ⟨0, _⟩ => show win1_11.index t (0 : Fin 2) * 8 + 1 * (j 0).val = (j 0).val; omega
  | ⟨1, _⟩ => show win1_11.index t (1 : Fin 2) * 1 + 1 * (j 1).val = (j 1).val; omega
theorem blk1_11 (c : Dev nD) (t : Fin cfg1.N) : iblk1 V c 11 t = V c main_v20 := by
  funext j
  show V c main_v20 (((cfg1.win 11).blk t).view.emb j) = _
  rw [emb1_11]

theorem index1_12 : ∀ t : Fin cfg1.N, win1_12.index t (0 : Fin 2) = 0 ∧ win1_12.index t (1 : Fin 2) = 0 := (by decide +kernel : ∀ t : Fin grid1.N, _)
theorem emb1_12 (t : Fin cfg1.N) (j : S32x256.Idx) : ((cfg1.win 12).blk t).view.emb j = j := by
  obtain ⟨e0, e1⟩ := index1_12 t
  funext a; apply Fin.ext
  match a with
  | ⟨0, _⟩ => show win1_12.index t (0 : Fin 2) * 32 + 1 * (j 0).val = (j 0).val; omega
  | ⟨1, _⟩ => show win1_12.index t (1 : Fin 2) * 256 + 1 * (j 1).val = (j 1).val; omega
theorem blk1_12 (c : Dev nD) (t : Fin cfg1.N) : iblk1 V c 12 t = V c main_v22 := by
  funext j
  show V c main_v22 (((cfg1.win 12).blk t).view.emb j) = _
  rw [emb1_12]

theorem index1_13 : ∀ t : Fin cfg1.N, win1_13.index t (0 : Fin 2) = 0 ∧ win1_13.index t (1 : Fin 2) = 0 := (by decide +kernel : ∀ t : Fin grid1.N, _)
theorem emb1_13 (t : Fin cfg1.N) (j : S32x1.Idx) : ((cfg1.win 13).blk t).view.emb j = j := by
  obtain ⟨e0, e1⟩ := index1_13 t
  funext a; apply Fin.ext
  match a with
  | ⟨0, _⟩ => show win1_13.index t (0 : Fin 2) * 32 + 1 * (j 0).val = (j 0).val; omega
  | ⟨1, _⟩ => show win1_13.index t (1 : Fin 2) * 1 + 1 * (j 1).val = (j 1).val; omega
theorem blk1_13 (c : Dev nD) (t : Fin cfg1.N) : iblk1 V c 13 t = V c main_v24 := by
  funext j
  show V c main_v24 (((cfg1.win 13).blk t).view.emb j) = _
  rw [emb1_13]

/-! ## What the two calls leave -/

theorem flush0 : ∀ t : Fin cfg0.N, (cfg0.win 1).flush t = true ↔ t.val = 7 := (by decide +kernel : ∀ t : Fin grid0.N, (cfg0.win 1).flush t = true ↔ t.val = 7)
theorem index0_1 : ∀ t : Fin cfg0.N, win0_1.index t (0 : Fin 2) = 0 ∧ win0_1.index t (1 : Fin 2) = 0 := (by decide +kernel : ∀ t : Fin grid0.N, _)
theorem emb0_1 (t : Fin cfg0.N) (j : S8x128.Idx) : ((cfg0.win 1).blk t).view.emb j = j := by
  obtain ⟨e0, e1⟩ := index0_1 t
  funext a; apply Fin.ext
  match a with
  | ⟨0, _⟩ => show win0_1.index t (0 : Fin 2) * 8 + 1 * (j 0).val = (j 0).val; omega
  | ⟨1, _⟩ => show win0_1.index t (1 : Fin 2) * 128 + 1 * (j 1).val = (j 1).val; omega
theorem seven_lt : 7 < cfg0.N := by rw [show cfg0.N = 8 from N_0]; decide
theorem gram_left (c : Dev nD) : (dat0 V c).arrAt 1 cfg0.N = (outsAt0 V c 7 seven_lt : S8x128.Idx → EReal) := by
  funext j
  have h := Pipeline.Dat.arrAt_emb_eq_flushed (dat := dat0 V c) 1 (fun t t' h h' hne => absurd (Fin.ext (((flush0 t).mp h).trans ((flush0 t').mp h').symm)) hne) ⟨7, seven_lt⟩ ((flush0 _).mpr rfl) j
  rw [emb0_1] at h
  refine h.trans ?_
  rfl

theorem flush1 : ∀ t : Fin cfg1.N, (cfg1.win 14).flush t = true ↔ t.val = 63 := (by decide +kernel : ∀ t : Fin grid1.N, (cfg1.win 14).flush t = true ↔ t.val = 63)
theorem index1_14 : ∀ t : Fin cfg1.N, win1_14.index t (0 : Fin 1) = 0 := (by decide +kernel : ∀ t : Fin grid1.N, _)
theorem emb1_14 (t : Fin cfg1.N) (j : S4.Idx) : ((cfg1.win 14).blk t).view.emb j = j := by
  have e0 := index1_14 t
  funext a; apply Fin.ext
  match a with
  | ⟨0, _⟩ => show win1_14.index t (0 : Fin 1) * 4 + 1 * (j 0).val = (j 0).val; omega
theorem last_lt : 63 < cfg1.N := by rw [show cfg1.N = 64 from N_1]; decide
theorem loss_left (c : Dev nD) : (dat1 V c).arrAt 14 cfg1.N = (outOf (accAt V c 63 last_lt) : S4.Idx → EReal) := by
  funext j
  have h := Pipeline.Dat.arrAt_emb_eq_flushed (dat := dat1 V c) 14 (fun t t' h h' hne => absurd (Fin.ext (((flush1 t).mp h).trans ((flush1 t').mp h').symm)) hne) ⟨63, last_lt⟩ ((flush1 _).mpr rfl) j
  rw [emb1_14] at h
  refine h.trans ?_
  rfl

end Cert.KernelIdeal.Val

end
-- ==== Proof.AccValue.lean ====
module

public import proofs.«01_k».proof.Proof.LossValue
public import proofs.«01_k».proof.Proof.Blocks

/-! The loss kernel's accumulator over its 64 tiles: each row's sum is a sum over the points. -/

@[expose] public section

set_option maxRecDepth 16384

noncomputable section

namespace Cert.KernelIdeal.Val

open Cert.KernelIdeal Cert.KernelIdeal.Gen Cert.KernelIdeal.Run Cert.Points
open Idealize.ShloMosaic Idealize.ShloMosaic.TcCoe

/-- A sum over tiles and lanes is a sum over points. -/
theorem sum_tiles {T L N : ℕ} (hN : T * L = N) (f : Fin N → EReal) (hlt : ∀ t l, t < T → l < L → t * L + l < N) :
    ∑ t : Fin T, ∑ l : Fin L, f ⟨t.val * L + l.val, hlt _ _ t.isLt l.isLt⟩ = ∑ n, f n := by
  subst hN
  rw [← Fintype.sum_prod_type']
  refine Fintype.sum_equiv finProdFinEquiv _ _ fun p => congrArg f (Fin.ext ?_)
  show p.1.val * L + p.2.val = p.2.val + L * p.1.val
  rw [Nat.mul_comm, Nat.add_comm]

/-- A running value that starts at its first term and adds one term at each step. -/
theorem running_sum (N : ℕ) (r : (n : ℕ) → n < N → EReal) (g : (n : ℕ) → n < N → EReal) (h0 : ∀ h, r 0 h = g 0 h)
    (hs : ∀ n (h : n + 1 < N), r (n + 1) h = r n (Nat.lt_of_succ_lt h) + g (n + 1) h) : ∀ n (h : n < N), r n h = ∑ t : Fin (n + 1), g t.val (by omega)
  | 0, h => by rw [h0]; exact (Fin.sum_univ_one (fun t : Fin 1 => g t.val (by omega))).symm
  | n + 1, h => by
    rw [hs, running_sum N r g h0 hs n, Fin.sum_univ_castSucc (f := fun t : Fin (n + 2) => g t.val (by omega))]
    rfl

variable (V : (c : Dev nD) → (b : Ref sig .tc) → Buf (Elt Ideal) ((c : Thread nD τ).loc b)) (c : Dev nD)

/-- A point's logits, its predicted and its true offset, and its two labels, in the arrays the call finds. -/
def lgV (n : Fin 262144) : Fin 20 → EReal := logits (feat (fun k => argF S262144x6 (V c main_arg6) (ix2 n k)) (wF (V c main_v3)) (colF (V c main_v4))) (wsF (V c main_v22)) (bsF (V c main_v24))
def acV (j : Fin 256) : EReal := aColOf (V c main_v0) (V c main_v3) (V c main_v4) (V c main_v5) (V c main_v10) (ix2 j 0)
def bcV (j : Fin 256) : EReal := bColOf (V c main_v0) (V c main_v3) (V c main_v4) (V c main_v5) (V c main_v10) (ix2 j 0)
def bpV (n : Fin 262144) : Fin 3 → EReal :=
  head (fun j => max (hid (feat (fun k => argF S262144x6 (V c main_arg6) (ix2 n k)) (wF (V c main_v3)) (colF (V c main_v4))) (w1F (V c main_v5)) j * acV V c j + bcV V c j) 0) (w2F (V c main_v18)) (b2F (V c main_v20))
def upV (n : Fin 262144) : Fin 3 → EReal := fun q => argF S262144x6 (V c main_v1) (ix2 n ⟨3 + q.val, by omega⟩) - argF S262144x6 (V c main_v1) (ix2 n ⟨q.val, by omega⟩)
def sgV (n : Fin 262144) : BitVec 32 := (V c main_arg1 : S262144.Idx → BitVec 32) (ix1 n)
def inV (n : Fin 262144) : BitVec 32 := (V c main_arg2 : S262144.Idx → BitVec 32) (ix1 n)

/-- What a point adds to each of the five rows. -/
def add0 (n : Fin 262144) : EReal := (lseShift (lgV V c n) - pick (lgV V c n) (sgV V c n)) * flag (sgV V c n)
def add1 (n : Fin 262144) : EReal := flag (sgV V c n)
def add2 (n : Fin 262144) : EReal := dist (bpV V c n) (upV V c n) * flag (inV V c n)
def add3 (n : Fin 262144) : EReal := flag (inV V c n)
def add4 (n : Fin 262144) : EReal := cosv (bpV V c n) (upV V c n) * flag (inV V c n)

/-- The point at a tile and a lane. -/
def pt (t : Fin cfg1.N) (l : Fin 4096) : Fin 262144 := ⟨t.val * 4096 + l.val, lt_pts _ _ (t.isLt.trans_eq N_1) l.isLt⟩

theorem acAt_apply (j : Fin 256) : acAt V c (ix2 j 0) = acV V c j := by
  unfold acAt acV
  rw [blk1_4, blk1_5, blk1_6, blk1_7, blk1_8]
theorem bcAt_apply (j : Fin 256) : bcAt V c (ix2 j 0) = bcV V c j := by
  unfold bcAt bcV
  rw [blk1_4, blk1_5, blk1_6, blk1_7, blk1_8]

theorem xF_blk (t : Fin cfg1.N) (l : Fin 4096) : xF (iblk1 V c 0 t) l = fun k => argF S262144x6 (V c main_arg6) (ix2 (pt t l) k) := by
  funext k; exact blk1_0 V c t l k
theorem uF_blk (t : Fin cfg1.N) (l : Fin 4096) : uF (iblk1 V c 1 t) l = upV V c (pt t l) := by
  funext q; exact congrArg₂ (· - ·) (blk1_1 V c t l _) (blk1_1 V c t l _)
theorem seg_blk (t : Fin cfg1.N) (l : Fin 4096) : (iblk1 V c 2 t : S4096.Idx → BitVec 32) (ix1 l) = sgV V c (pt t l) := blk1_2 V c t l
theorem ins_blk (t : Fin cfg1.N) (l : Fin 4096) : (iblk1 V c 3 t : S4096.Idx → BitVec 32) (ix1 l) = inV V c (pt t l) := blk1_3 V c t l

theorem bp_blk (t : Fin cfg1.N) (l : Fin 4096) :
    (fun q => biasOf (iblk1 V c 0 t) (iblk1 V c 5 t) (iblk1 V c 6 t) (iblk1 V c 7 t) (acAt V c) (bcAt V c) (iblk1 V c 10 t) (iblk1 V c 11 t) (ix2 q l)) = bpV V c (pt t l) := by
  funext q
  rw [biasOf_apply, xF_blk, blk1_5, blk1_6, blk1_7, blk1_10, blk1_11]
  simp only [acAt_apply, bcAt_apply]
  rfl

/-- The identity's leading columns are what the fifth weight block holds. -/
def EyeV : Prop := ∀ q k : Fin 3, argF S8x3 (V c main_v16) (ix2 ⟨q.val, by omega⟩ k) = if q = k then 1 else 0

/-! ## One step on each row -/

theorem fill_at (i : S8x4096.Idx) : (k1_pay5 (F := Ideal) i : EReal) = 0 := by
  idx_vars i
  pointwise [k1_pay5]

theorem step0 (ht : ∀ n, (tgt (sgV V c n)).toNat < 20) (t : Fin cfg1.N) (a : Vec Ideal S8x4096 .f32) (l : Fin 4096) :
    (View.ld (accNext (iblk1 V c 0 t) (iblk1 V c 1 t) (iblk1 V c 2 t) (iblk1 V c 3 t) (iblk1 V c 5 t) (iblk1 V c 6 t) (iblk1 V c 7 t) (iblk1 V c 9 t) (iblk1 V c 10 t) (iblk1 V c 11 t) (iblk1 V c 12 t) (iblk1 V c 13 t) (acAt V c) (bcAt V c) a) (Rect.unit (s := S8x4096) ![0, 0] S1x4096.size inb_S8x4096_S1x4096_0_0) : S1x4096.Idx → EReal) (ix2 0 l)
      = ((View.ld a (Rect.unit (s := S8x4096) ![0, 0] S1x4096.size inb_S8x4096_S1x4096_0_0)) : S1x4096.Idx → EReal) (ix2 0 l) + add0 V c (pt t l) := by
  unfold accNext
  rw [accRows_ld0]
  refine (row0Of_apply _ _ _ _ _ _ _ l (by rw [seg_blk]; exact ht _)).trans ?_
  rw [xF_blk, seg_blk, blk1_5, blk1_6, blk1_12, blk1_13]
  rfl
theorem total0 (ht : ∀ n, (tgt (sgV V c n)).toNat < 20) : tot (View.ld (accAt V c 63 last_lt) (Rect.unit (s := S8x4096) ![0, 0] S1x4096.size inb_S8x4096_S1x4096_0_0)) = ∑ n, add0 V c n := by
  have e : ∀ l : Fin 4096, ((View.ld (accAt V c 63 last_lt) (Rect.unit (s := S8x4096) ![0, 0] S1x4096.size inb_S8x4096_S1x4096_0_0)) : S1x4096.Idx → EReal) (ix2 0 l) = ∑ t : Fin 64, add0 V c ⟨t.val * 4096 + l.val, lt_pts _ _ t.isLt l.isLt⟩ := fun l =>
    running_sum cfg1.N (fun n h => ((View.ld (accAt V c n h) (Rect.unit (s := S8x4096) ![0, 0] S1x4096.size inb_S8x4096_S1x4096_0_0)) : S1x4096.Idx → EReal) (ix2 0 l)) (fun n h => add0 V c (pt ⟨n, h⟩ l))
      (fun h => (step0 V c ht ⟨0, h⟩ (k1_pay5 (F := Ideal)) l).trans (by
        refine (congrArg (· + _) ?_).trans (zero_add _)
        exact fill_at _))
      (fun n h => step0 V c ht ⟨n + 1, h⟩ _ l) 63 last_lt
  unfold tot
  rw [Finset.sum_congr rfl fun l _ => e l, Finset.sum_comm]
  exact sum_tiles (by decide) (add0 V c) lt_pts

theorem step1 (t : Fin cfg1.N) (a : Vec Ideal S8x4096 .f32) (l : Fin 4096) :
    (View.ld (accNext (iblk1 V c 0 t) (iblk1 V c 1 t) (iblk1 V c 2 t) (iblk1 V c 3 t) (iblk1 V c 5 t) (iblk1 V c 6 t) (iblk1 V c 7 t) (iblk1 V c 9 t) (iblk1 V c 10 t) (iblk1 V c 11 t) (iblk1 V c 12 t) (iblk1 V c 13 t) (acAt V c) (bcAt V c) a) (Rect.unit (s := S8x4096) ![1, 0] S1x4096.size inb_S8x4096_S1x4096_1_0) : S1x4096.Idx → EReal) (ix2 0 l)
      = ((View.ld a (Rect.unit (s := S8x4096) ![1, 0] S1x4096.size inb_S8x4096_S1x4096_1_0)) : S1x4096.Idx → EReal) (ix2 0 l) + add1 V c (pt t l) := by
  unfold accNext
  rw [accRows_ld1]
  refine (row1Of_apply _ _ l).trans ?_
  rw [seg_blk]
  rfl
theorem total1 : tot (View.ld (accAt V c 63 last_lt) (Rect.unit (s := S8x4096) ![1, 0] S1x4096.size inb_S8x4096_S1x4096_1_0)) = ∑ n, add1 V c n := by
  have e : ∀ l : Fin 4096, ((View.ld (accAt V c 63 last_lt) (Rect.unit (s := S8x4096) ![1, 0] S1x4096.size inb_S8x4096_S1x4096_1_0)) : S1x4096.Idx → EReal) (ix2 0 l) = ∑ t : Fin 64, add1 V c ⟨t.val * 4096 + l.val, lt_pts _ _ t.isLt l.isLt⟩ := fun l =>
    running_sum cfg1.N (fun n h => ((View.ld (accAt V c n h) (Rect.unit (s := S8x4096) ![1, 0] S1x4096.size inb_S8x4096_S1x4096_1_0)) : S1x4096.Idx → EReal) (ix2 0 l)) (fun n h => add1 V c (pt ⟨n, h⟩ l))
      (fun h => (step1 V c ⟨0, h⟩ (k1_pay5 (F := Ideal)) l).trans (by
        refine (congrArg (· + _) ?_).trans (zero_add _)
        exact fill_at _))
      (fun n h => step1 V c ⟨n + 1, h⟩ _ l) 63 last_lt
  unfold tot
  rw [Finset.sum_congr rfl fun l _ => e l, Finset.sum_comm]
  exact sum_tiles (by decide) (add1 V c) lt_pts

theorem step2 (hE : EyeV V c) (t : Fin cfg1.N) (a : Vec Ideal S8x4096 .f32) (l : Fin 4096) :
    (View.ld (accNext (iblk1 V c 0 t) (iblk1 V c 1 t) (iblk1 V c 2 t) (iblk1 V c 3 t) (iblk1 V c 5 t) (iblk1 V c 6 t) (iblk1 V c 7 t) (iblk1 V c 9 t) (iblk1 V c 10 t) (iblk1 V c 11 t) (iblk1 V c 12 t) (iblk1 V c 13 t) (acAt V c) (bcAt V c) a) (Rect.unit (s := S8x4096) ![2, 0] S1x4096.size inb_S8x4096_S1x4096_2_0) : S1x4096.Idx → EReal) (ix2 0 l)
      = ((View.ld a (Rect.unit (s := S8x4096) ![2, 0] S1x4096.size inb_S8x4096_S1x4096_2_0)) : S1x4096.Idx → EReal) (ix2 0 l) + add2 V c (pt t l) := by
  unfold accNext
  rw [accRows_ld2]
  refine (row2Of_apply _ _ _ (by rw [blk1_9]; exact hE) _ _ l).trans ?_
  rw [bp_blk, uF_blk, ins_blk]
  rfl
theorem total2 (hE : EyeV V c) : tot (View.ld (accAt V c 63 last_lt) (Rect.unit (s := S8x4096) ![2, 0] S1x4096.size inb_S8x4096_S1x4096_2_0)) = ∑ n, add2 V c n := by
  have e : ∀ l : Fin 4096, ((View.ld (accAt V c 63 last_lt) (Rect.unit (s := S8x4096) ![2, 0] S1x4096.size inb_S8x4096_S1x4096_2_0)) : S1x4096.Idx → EReal) (ix2 0 l) = ∑ t : Fin 64, add2 V c ⟨t.val * 4096 + l.val, lt_pts _ _ t.isLt l.isLt⟩ := fun l =>
    running_sum cfg1.N (fun n h => ((View.ld (accAt V c n h) (Rect.unit (s := S8x4096) ![2, 0] S1x4096.size inb_S8x4096_S1x4096_2_0)) : S1x4096.Idx → EReal) (ix2 0 l)) (fun n h => add2 V c (pt ⟨n, h⟩ l))
      (fun h => (step2 V c hE ⟨0, h⟩ (k1_pay5 (F := Ideal)) l).trans (by
        refine (congrArg (· + _) ?_).trans (zero_add _)
        exact fill_at _))
      (fun n h => step2 V c hE ⟨n + 1, h⟩ _ l) 63 last_lt
  unfold tot
  rw [Finset.sum_congr rfl fun l _ => e l, Finset.sum_comm]
  exact sum_tiles (by decide) (add2 V c) lt_pts

theorem step3 (t : Fin cfg1.N) (a : Vec Ideal S8x4096 .f32) (l : Fin 4096) :
    (View.ld (accNext (iblk1 V c 0 t) (iblk1 V c 1 t) (iblk1 V c 2 t) (iblk1 V c 3 t) (iblk1 V c 5 t) (iblk1 V c 6 t) (iblk1 V c 7 t) (iblk1 V c 9 t) (iblk1 V c 10 t) (iblk1 V c 11 t) (iblk1 V c 12 t) (iblk1 V c 13 t) (acAt V c) (bcAt V c) a) (Rect.unit (s := S8x4096) ![3, 0] S1x4096.size inb_S8x4096_S1x4096_3_0) : S1x4096.Idx → EReal) (ix2 0 l)
      = ((View.ld a (Rect.unit (s := S8x4096) ![3, 0] S1x4096.size inb_S8x4096_S1x4096_3_0)) : S1x4096.Idx → EReal) (ix2 0 l) + add3 V c (pt t l) := by
  unfold accNext
  rw [accRows_ld3]
  refine (row3Of_apply _ _ l).trans ?_
  rw [ins_blk]
  rfl
theorem total3 : tot (View.ld (accAt V c 63 last_lt) (Rect.unit (s := S8x4096) ![3, 0] S1x4096.size inb_S8x4096_S1x4096_3_0)) = ∑ n, add3 V c n := by
  have e : ∀ l : Fin 4096, ((View.ld (accAt V c 63 last_lt) (Rect.unit (s := S8x4096) ![3, 0] S1x4096.size inb_S8x4096_S1x4096_3_0)) : S1x4096.Idx → EReal) (ix2 0 l) = ∑ t : Fin 64, add3 V c ⟨t.val * 4096 + l.val, lt_pts _ _ t.isLt l.isLt⟩ := fun l =>
    running_sum cfg1.N (fun n h => ((View.ld (accAt V c n h) (Rect.unit (s := S8x4096) ![3, 0] S1x4096.size inb_S8x4096_S1x4096_3_0)) : S1x4096.Idx → EReal) (ix2 0 l)) (fun n h => add3 V c (pt ⟨n, h⟩ l))
      (fun h => (step3 V c ⟨0, h⟩ (k1_pay5 (F := Ideal)) l).trans (by
        refine (congrArg (· + _) ?_).trans (zero_add _)
        exact fill_at _))
      (fun n h => step3 V c ⟨n + 1, h⟩ _ l) 63 last_lt
  unfold tot
  rw [Finset.sum_congr rfl fun l _ => e l, Finset.sum_comm]
  exact sum_tiles (by decide) (add3 V c) lt_pts

theorem step4 (hE : EyeV V c) (t : Fin cfg1.N) (a : Vec Ideal S8x4096 .f32) (l : Fin 4096) :
    (View.ld (accNext (iblk1 V c 0 t) (iblk1 V c 1 t) (iblk1 V c 2 t) (iblk1 V c 3 t) (iblk1 V c 5 t) (iblk1 V c 6 t) (iblk1 V c 7 t) (iblk1 V c 9 t) (iblk1 V c 10 t) (iblk1 V c 11 t) (iblk1 V c 12 t) (iblk1 V c 13 t) (acAt V c) (bcAt V c) a) (Rect.unit (s := S8x4096) ![4, 0] S1x4096.size inb_S8x4096_S1x4096_4_0) : S1x4096.Idx → EReal) (ix2 0 l)
      = ((View.ld a (Rect.unit (s := S8x4096) ![4, 0] S1x4096.size inb_S8x4096_S1x4096_4_0)) : S1x4096.Idx → EReal) (ix2 0 l) + add4 V c (pt t l) := by
  unfold accNext
  rw [accRows_ld4]
  refine (row4Of_apply _ _ _ (by rw [blk1_9]; exact hE) _ _ l).trans ?_
  rw [bp_blk, uF_blk, ins_blk]
  rfl
theorem total4 (hE : EyeV V c) : tot (View.ld (accAt V c 63 last_lt) (Rect.unit (s := S8x4096) ![4, 0] S1x4096.size inb_S8x4096_S1x4096_4_0)) = ∑ n, add4 V c n := by
  have e : ∀ l : Fin 4096, ((View.ld (accAt V c 63 last_lt) (Rect.unit (s := S8x4096) ![4, 0] S1x4096.size inb_S8x4096_S1x4096_4_0)) : S1x4096.Idx → EReal) (ix2 0 l) = ∑ t : Fin 64, add4 V c ⟨t.val * 4096 + l.val, lt_pts _ _ t.isLt l.isLt⟩ := fun l =>
    running_sum cfg1.N (fun n h => ((View.ld (accAt V c n h) (Rect.unit (s := S8x4096) ![4, 0] S1x4096.size inb_S8x4096_S1x4096_4_0)) : S1x4096.Idx → EReal) (ix2 0 l)) (fun n h => add4 V c (pt ⟨n, h⟩ l))
      (fun h => (step4 V c hE ⟨0, h⟩ (k1_pay5 (F := Ideal)) l).trans (by
        refine (congrArg (· + _) ?_).trans (zero_add _)
        exact fill_at _))
      (fun n h => step4 V c hE ⟨n + 1, h⟩ _ l) 63 last_lt
  unfold tot
  rw [Finset.sum_congr rfl fun l _ => e l, Finset.sum_comm]
  exact sum_tiles (by decide) (add4 V c) lt_pts

end Cert.KernelIdeal.Val

end
-- ==== Proof.GramValue.lean ====
module

public import proofs.«01_k».proof.Proof.AccValue
public import proofs.«01_k».proof.Proof.HostValue
public import proofs.«01_k».proof.Proof.Terms

/-! The Gram call's result: at a row and a column, the sum over the points of the product of
the two extended features. Then every array the loss call finds, in the arguments' terms. -/

@[expose] public section

set_option maxRecDepth 16384

noncomputable section

namespace Cert.KernelIdeal.Val

open Cert.KernelIdeal Cert.KernelIdeal.Gen Cert.KernelIdeal.Run Cert.Points
open Idealize.ShloMosaic Idealize.ShloMosaic.TcCoe

theorem ld_gx (x : Vec Ideal S32768x6 .f32) : View.ld x (Rect.unit (s := S32768x6) ![0, 0] S32768x6.size inb_S32768x6_S32768x6_0_0) = x := by
  funext i
  idx_vars i
  pointwise
theorem ld_ga (x : Vec Ideal S8x128 .f32) : View.ld x (Rect.unit (s := S8x128) ![0, 0] S8x128.size inb_S8x128_S8x128_0_0) = x := by
  funext i
  idx_vars i
  pointwise

theorem gram_zero (i : S8x128.Idx) : (k0_pay1 (F := Ideal) i : EReal) = 0 := by
  idx_vars i
  pointwise [k0_pay1]

theorem ext_bits (x : Fin 6 → EReal) (k : Fin 8) :
    Scalar.select (IntOp.cmpi CmpIPredicate.eq (BitVec.ofNat 32 k.val) 6#32) (1 : EReal) (if h : k.val < 6 then x ⟨k.val, h⟩ else ((((0#32).toInt : ℝ)) : EReal)) = ext x k := by
  fin_cases k <;> simp [ext, Scalar.select, IntOp.cmpi]

theorem gram_step (x : Vec Ideal S32768x6 .f32) (a : Vec Ideal S8x128 .f32) (i j : Fin 8) :
    (gramNext x a (ix2 i ⟨j.val, by omega⟩) : EReal) = (a : S8x128.Idx → EReal) (ix2 i ⟨j.val, by omega⟩) + ∑ l : Fin 32768, ext (fun k => (x : S32768x6.Idx → EReal) (ix2 l k)) i * ext (fun k => (x : S32768x6.Idx → EReal) (ix2 l k)) j := by
  unfold gramNext
  rw [ld_gx, ld_ga]
  pointwise [k0_pay2]
  refine congrArg _ (Finset.sum_congr rfl fun l _ => ?_)
  exact congrArg₂ (· * ·) (ext_bits (fun k => (x : S32768x6.Idx → EReal) (ix2 l k)) i) (ext_bits (fun k => (x : S32768x6.Idx → EReal) (ix2 l k)) j)

/-- The sum the eighth tile leaves. -/
theorem gram_total (V : (c : Dev nD) → (b : Ref sig .tc) → Buf (Elt Ideal) ((c : Thread nD τ).loc b)) (c : Dev nD) (i j : Fin 8) :
    (outsAt0 V c 7 seven_lt : S8x128.Idx → EReal) (ix2 i ⟨j.val, by omega⟩)
      = ∑ n : Fin 262144, ext (fun k => argF S262144x6 (V c main_arg6) (ix2 n k)) i * ext (fun k => argF S262144x6 (V c main_arg6) (ix2 n k)) j := by
  have st : ∀ (t : Fin cfg0.N) (a : Vec Ideal S8x128 .f32), (gramNext (iblk0 V c 0 t) a (ix2 i ⟨j.val, by omega⟩) : EReal)
      = (a : S8x128.Idx → EReal) (ix2 i ⟨j.val, by omega⟩) + ∑ l : Fin 32768, ext (fun k => argF S262144x6 (V c main_arg6) (ix2 ⟨t.val * 32768 + l.val, lt_pts8 _ _ (t.isLt.trans_eq N_0) l.isLt⟩ k)) i * ext (fun k => argF S262144x6 (V c main_arg6) (ix2 ⟨t.val * 32768 + l.val, lt_pts8 _ _ (t.isLt.trans_eq N_0) l.isLt⟩ k)) j := by
    intro t a
    rw [gram_step]
    simp only [blk0_0]
  rw [running_sum cfg0.N (fun n h => (outsAt0 V c n h : S8x128.Idx → EReal) (ix2 i ⟨j.val, by omega⟩))
    (fun n h => ∑ l : Fin 32768, ext (fun k => argF S262144x6 (V c main_arg6) (ix2 ⟨n * 32768 + l.val, lt_pts8 _ _ (h.trans_eq N_0) l.isLt⟩ k)) i * ext (fun k => argF S262144x6 (V c main_arg6) (ix2 ⟨n * 32768 + l.val, lt_pts8 _ _ (h.trans_eq N_0) l.isLt⟩ k)) j)
    (fun h => (st ⟨0, h⟩ (k0_pay1 (F := Ideal))).trans ((congrArg (· + _) (gram_zero _)).trans (zero_add _)))
    (fun n h => st ⟨n + 1, h⟩ _) 7 seven_lt]
  exact sum_tiles (by decide) (fun n => ext (fun k => argF S262144x6 (V c main_arg6) (ix2 n k)) i * ext (fun k => argF S262144x6 (V c main_arg6) (ix2 n k)) j) lt_pts8

/-! ## The arguments -/

variable (m : (ℓ : Loc nD τ sig) → Buf (Elt Ideal) ℓ) (ρ : Dev nD → PrngReg) (c : Dev nD)

/-- The arguments the launch finds. -/
def ptsK : Pts where
  x n k := argF S262144x6 (m ((c.tc : Thread nD τ).loc main_arg6)) (ix2 n k)
  pos n q := argF S262144x3 (m ((c.tc : Thread nD τ).loc main_arg0)) (ix2 n q)
  ctr n q := argF S262144x3 (m ((c.tc : Thread nD τ).loc main_arg3)) (ix2 n q)
  seg n := (m ((c.tc : Thread nD τ).loc main_arg1) : S262144.Idx → BitVec 32) (ix1 n)
  ins n := (m ((c.tc : Thread nD τ).loc main_arg2) : S262144.Idx → BitVec 32) (ix1 n)
  W k j := argF S6x256 (m ((c.tc : Thread nD τ).loc main_arg7)) (ix2 k j)
  b j := argF S256 (m ((c.tc : Thread nD τ).loc main_arg8)) (ix1 j)
  W1 k j := argF S256x256 (m ((c.tc : Thread nD τ).loc main_arg9)) (ix2 k j)
  b1 j := argF S256 (m ((c.tc : Thread nD τ).loc main_arg10)) (ix1 j)
  gam j := argF S256 (m ((c.tc : Thread nD τ).loc main_arg11)) (ix1 j)
  bet j := argF S256 (m ((c.tc : Thread nD τ).loc main_arg12)) (ix1 j)
  W2 j q := argF S256x3 (m ((c.tc : Thread nD τ).loc main_arg13)) (ix2 j q)
  b2 q := argF S3 (m ((c.tc : Thread nD τ).loc main_arg14)) (ix1 q)
  Ws j n := argF S256x20 (m ((c.tc : Thread nD τ).loc main_arg15)) (ix2 j n)
  bs n := argF S20 (m ((c.tc : Thread nD τ).loc main_arg16)) (ix1 n)

theorem v0_left : V14 m ρ c main_v0 = outsAt0 (V0 m ρ) c 7 seven_lt :=
  (W14_of m ρ c main_v0 (by decide)).trans <| (W13_of m ρ c main_v0 (by decide)).trans <| (W12_of m ρ c main_v0 (by decide)).trans <|
  (W11_of m ρ c main_v0 (by decide)).trans <| (W10_of m ρ c main_v0 (by decide)).trans <| (W9_of m ρ c main_v0 (by decide)).trans <|
  (W8_of m ρ c main_v0 (by decide)).trans <| (W7_of m ρ c main_v0 (by decide)).trans <| (W6_of m ρ c main_v0 (by decide)).trans <|
  (W5_of m ρ c main_v0 (by decide)).trans <| (W4_of m ρ c main_v0 (by decide)).trans <| (W3_of m ρ c main_v0 (by decide)).trans <|
  (W2_of m ρ c main_v0 (by decide)).trans <| (W1_arr m ρ c 1).trans (gram_left (V0 m ρ) c)

theorem gram_arg : sF (V14 m ρ c main_v0) = (ptsK m c).gram := by
  funext i j
  unfold sF
  rw [v0_left]
  exact gram_total (V0 m ρ) c i j

theorem wF_arg : wF (V14 m ρ c main_v3) = (ptsK m c).W := by
  funext k j; exact v3_in m ρ c j k
theorem colF_arg : colF (V14 m ρ c main_v4) = (ptsK m c).b := by
  funext j; exact v4_at m ρ c j
theorem w1F_arg : w1F (V14 m ρ c main_v5) = (ptsK m c).W1 := by
  funext k j; exact v5_at m ρ c j k
theorem w2F_arg : w2F (V14 m ρ c main_v18) = (ptsK m c).W2 := by
  funext j q; exact v18_at m ρ c q j
theorem b2F_arg : b2F (V14 m ρ c main_v20) = (ptsK m c).b2 := by
  funext q; exact v20_at m ρ c q
theorem wsF_arg : wsF (V14 m ρ c main_v22) = (ptsK m c).Ws := by
  funext j n; exact v22_at m ρ c n j
theorem bsF_arg : bsF (V14 m ρ c main_v24) = (ptsK m c).bs := by
  funext n; exact v24_at m ρ c n
theorem x_arg (n : Fin 262144) : (fun k => argF S262144x6 (V14 m ρ c main_arg6) (ix2 n k)) = (ptsK m c).x n := by
  funext k
  rw [show V14 m ρ c main_arg6 = m ((c.tc : Thread nD τ).loc main_arg6) from W14_args m ρ c main_arg6 (by decide)]
  rfl
theorem eye_arg : EyeV (V14 m ρ) c := fun q k => v16_at m ρ c q k
theorem up_arg (n : Fin 262144) : upV (V14 m ρ) c n = (ptsK m c).tru n := by
  funext q; exact congrArg₂ (· - ·) (v1_ctr m ρ c n q) (v1_pos m ρ c n q)
theorem sg_arg (n : Fin 262144) : sgV (V14 m ρ) c n = (ptsK m c).seg n := by
  unfold sgV
  rw [show V14 m ρ c main_arg1 = m ((c.tc : Thread nD τ).loc main_arg1) from W14_args m ρ c main_arg1 (by decide)]
  rfl
theorem in_arg (n : Fin 262144) : inV (V14 m ρ) c n = (ptsK m c).ins n := by
  unfold inV
  rw [show V14 m ρ c main_arg2 = m ((c.tc : Thread nD τ).loc main_arg2) from W14_args m ρ c main_arg2 (by decide)]
  rfl
theorem lg_arg (n : Fin 262144) : lgV (V14 m ρ) c n = (ptsK m c).lg n := by
  unfold lgV Pts.lg Pts.ft
  rw [x_arg, wF_arg, colF_arg, wsF_arg, bsF_arg]

theorem aug_arg (j : Fin 256) : wAug (V14 m ρ c main_v3) (V14 m ρ c main_v4) (V14 m ρ c main_v5) (V14 m ρ c main_v10) j = (ptsK m c).aug j := by
  funext k
  unfold wAug Pts.aug
  refine congrArg₂ (· + ·) (Finset.sum_congr rfl fun d _ => congrArg₂ (· * ·) (v5_at m ρ c j d) (congrArg₂ (· + ·) ?_ ?_)) ?_
  · by_cases h : k.val < 6
    · rw [dif_pos h]; exact v3_in m ρ c d ⟨k.val, h⟩
    · rw [dif_neg h]; exact v3_out m ρ c d k (by omega)
  · exact if_congr Iff.rfl (v4_at m ρ c d) rfl
  · exact if_congr Iff.rfl (v10_at2 m ρ c j) rfl
theorem ac_arg (j : Fin 256) : acV (V14 m ρ) c j = (ptsK m c).aK j := by
  unfold acV
  rw [aColOf_apply, gram_arg, aug_arg]
  exact congrArg (fun t => Ideal.div t _) (v10_at0 m ρ c j)
theorem bc_arg (j : Fin 256) : bcV (V14 m ρ) c j = (ptsK m c).bK j := by
  unfold bcV
  rw [bColOf_apply, gram_arg, aug_arg]
  have e0 := v10_at0 m ρ c j
  have e1 := v10_at1 m ρ c j
  have e2 := v10_at2 m ρ c j
  unfold argF at e0 e1 e2
  rw [e0, e1, e2]
  rfl
theorem bp_arg (n : Fin 262144) : bpV (V14 m ρ) c n = head ((ptsK m c).hK n) (ptsK m c).W2 (ptsK m c).b2 := by
  unfold bpV
  simp only [ac_arg, bc_arg]
  rw [x_arg, wF_arg, colF_arg, w1F_arg, w2F_arg, b2F_arg]
  rfl

end Cert.KernelIdeal.Val

end
-- ==== Proof.KernelResult.lean ====
module

public import proofs.«01_k».proof.Proof.GramValue

/-! The kernel's four results in the arguments' terms. -/

@[expose] public section

set_option maxRecDepth 16384

noncomputable section

namespace Cert.KernelIdeal.Val

open Cert.KernelIdeal Cert.KernelIdeal.Gen Cert.KernelIdeal.Run Cert.Points
open Idealize.ShloMosaic Idealize.ShloMosaic.TcCoe Idealize.ShloMosaic.StableHlo

variable (m : (ℓ : Loc nD τ sig) → Buf (Elt Ideal) ℓ) (ρ : Dev nD → PrngReg) (c : Dev nD)

/-- Every label names a class below twenty. -/
def Labelled : Prop := ∀ n, (tgt ((ptsK m c).seg n)).toNat < 20

theorem sum0 : ∑ n, add0 (V14 m ρ) c n = ∑ n, (lseShift ((ptsK m c).lg n) - pick ((ptsK m c).lg n) ((ptsK m c).seg n)) * flag ((ptsK m c).seg n) :=
  Finset.sum_congr rfl fun n _ => by unfold add0; rw [lg_arg, sg_arg]
theorem sum1 : ∑ n, add1 (V14 m ρ) c n = ∑ n, flag ((ptsK m c).seg n) :=
  Finset.sum_congr rfl fun n _ => by unfold add1; rw [sg_arg]
theorem sum2 : ∑ n, add2 (V14 m ρ) c n = ∑ n, dist (head ((ptsK m c).hK n) (ptsK m c).W2 (ptsK m c).b2) ((ptsK m c).tru n) * flag ((ptsK m c).ins n) :=
  Finset.sum_congr rfl fun n _ => by unfold add2; rw [bp_arg, up_arg, in_arg]
theorem sum3 : ∑ n, add3 (V14 m ρ) c n = ∑ n, flag ((ptsK m c).ins n) :=
  Finset.sum_congr rfl fun n _ => by unfold add3; rw [in_arg]
theorem sum4 : ∑ n, add4 (V14 m ρ) c n = ∑ n, cosv (head ((ptsK m c).hK n) (ptsK m c).W2 (ptsK m c).b2) ((ptsK m c).tru n) * flag ((ptsK m c).ins n) :=
  Finset.sum_congr rfl fun n _ => by unfold add4; rw [bp_arg, up_arg, in_arg]

theorem v25_left : W15 m ρ c (Proc.devRef .tc main_v25) = (outOf (accAt (V14 m ρ) c 63 last_lt) : S4.Idx → EReal) :=
  (W15_arr m ρ c 14).trans (loss_left (V14 m ρ) c)

theorem lab (h : Labelled m c) : ∀ n, (tgt (sgV (V14 m ρ) c n)).toNat < 20 := fun n => by rw [sg_arg]; exact h n

theorem seg_left (h : Labelled m c) : (outOf (accAt (V14 m ρ) c 63 last_lt) : S4.Idx → EReal) (ix1 1) = (ptsK m c).segOf lseShift := by
  show k1_pay12 _ _ = _
  rw [pay12_eq, total0 _ _ (lab m ρ c h), total1, sum0, sum1]
  rfl
theorem l1_left : (outOf (accAt (V14 m ρ) c 63 last_lt) : S4.Idx → EReal) (ix1 2) = (ptsK m c).l1Of (ptsK m c).hK := by
  show k1_pay14 _ _ = _
  rw [pay14_eq, total2 _ _ (eye_arg m ρ c), total3, sum2, sum3]
  rfl
theorem cos_left : (outOf (accAt (V14 m ρ) c 63 last_lt) : S4.Idx → EReal) (ix1 3) = (ptsK m c).cosOf (ptsK m c).hK := by
  show k1_pay15 _ _ = _
  rw [pay15_eq, total4 _ _ (eye_arg m ρ c), total3, sum4, sum3]
  rfl
theorem loss_value (h : Labelled m c) : (outOf (accAt (V14 m ρ) c 63 last_lt) : S4.Idx → EReal) (ix1 0) = (ptsK m c).segOf lseShift + (ptsK m c).l1Of (ptsK m c).hK + (ptsK m c).cosOf (ptsK m c).hK := by
  show k1_pay16 _ _ _ _ _ = _
  rw [pay16_eq, total0 _ _ (lab m ρ c h), total1, total2 _ _ (eye_arg m ρ c), total3, total4 _ _ (eye_arg m ρ c), sum0, sum1, sum2, sum3, sum4]
  rfl

/-! ## The slices the host takes -/

theorem slice0 (x : S4.Idx → EReal) (i : S_.Idx) : shapeCast S_ (extractStridedSlice S1 ![0] x slices_S4_S1_0) shapeCasts_S1_S_ i = x (ix1 0) := by
  rw [show i = ix0 from Subsingleton.elim _ _]
  pointwise
theorem v27_left : W16 m ρ c (Proc.devRef .tc main_v27) = (shapeCast S_ (extractStridedSlice S1 ![0] (W15 m ρ c (Proc.devRef .tc main_v25)) slices_S4_S1_0) shapeCasts_S1_S_ : S_.Idx → EReal) := by
  after_results
  rfl
theorem slice1 (x : S4.Idx → EReal) (i : S_.Idx) : shapeCast S_ (extractStridedSlice S1 ![1] x slices_S4_S1_1) shapeCasts_S1_S_ i = x (ix1 1) := by
  rw [show i = ix0 from Subsingleton.elim _ _]
  pointwise
theorem v29_left : W16 m ρ c (Proc.devRef .tc main_v29) = (shapeCast S_ (extractStridedSlice S1 ![1] (W15 m ρ c (Proc.devRef .tc main_v25)) slices_S4_S1_1) shapeCasts_S1_S_ : S_.Idx → EReal) := by
  after_results
  rfl
theorem slice2 (x : S4.Idx → EReal) (i : S_.Idx) : shapeCast S_ (extractStridedSlice S1 ![2] x slices_S4_S1_2) shapeCasts_S1_S_ i = x (ix1 2) := by
  rw [show i = ix0 from Subsingleton.elim _ _]
  pointwise
theorem v31_left : W16 m ρ c (Proc.devRef .tc main_v31) = (shapeCast S_ (extractStridedSlice S1 ![2] (W15 m ρ c (Proc.devRef .tc main_v25)) slices_S4_S1_2) shapeCasts_S1_S_ : S_.Idx → EReal) := by
  after_results
  rfl
theorem slice3 (x : S4.Idx → EReal) (i : S_.Idx) : shapeCast S_ (extractStridedSlice S1 ![3] x slices_S4_S1_3) shapeCasts_S1_S_ i = x (ix1 3) := by
  rw [show i = ix0 from Subsingleton.elim _ _]
  pointwise
theorem v33_left : W16 m ρ c (Proc.devRef .tc main_v33) = (shapeCast S_ (extractStridedSlice S1 ![3] (W15 m ρ c (Proc.devRef .tc main_v25)) slices_S4_S1_3) shapeCasts_S1_S_ : S_.Idx → EReal) := by
  after_results
  rfl

theorem res27 (h : Labelled m c) : W16 m ρ c (Proc.devRef .tc main_v27) = (fun _ => (ptsK m c).segOf lseShift + (ptsK m c).l1Of (ptsK m c).hK + (ptsK m c).cosOf (ptsK m c).hK : S_.Idx → EReal) := by
  funext i
  rw [v27_left, v25_left]
  exact (slice0 _ i).trans (loss_value m ρ c h)
theorem res29 (h : Labelled m c) : W16 m ρ c (Proc.devRef .tc main_v29) = (fun _ => (ptsK m c).segOf lseShift : S_.Idx → EReal) := by
  funext i
  rw [v29_left, v25_left]
  exact (slice1 _ i).trans (seg_left m ρ c h)
theorem res31 : W16 m ρ c (Proc.devRef .tc main_v31) = (fun _ => (ptsK m c).l1Of (ptsK m c).hK : S_.Idx → EReal) := by
  funext i
  rw [v31_left, v25_left]
  exact (slice2 _ i).trans (l1_left m ρ c)
theorem res33 : W16 m ρ c (Proc.devRef .tc main_v33) = (fun _ => (ptsK m c).cosOf (ptsK m c).hK : S_.Idx → EReal) := by
  funext i
  rw [v33_left, v25_left]
  exact (slice3 _ i).trans (cos_left m ρ c)

end Cert.KernelIdeal.Val

end
-- ==== Proof.RefValue.lean ====
module

public import proofs.«01_k».proof.Proof.Gen.ReferenceIdeal.Read
public import proofs.«01_k».proof.Proof.Terms
public import Idealize.ShloMosaic.Lib.Pointwise

@[expose] public section

set_option maxRecDepth 16384

noncomputable section

namespace Cert.ReferenceIdeal.Val

open Cert.ReferenceIdeal Cert.ReferenceIdeal.Gen Cert.ReferenceIdeal.Read Cert.Points
open Idealize.ShloMosaic Idealize.ShloMosaic.TcCoe

variable (x0 : (⟨S262144x3, .f32⟩ : BufTy).Contents (Elt Ideal)) (x1 : (⟨S262144, .i32⟩ : BufTy).Contents (Elt Ideal)) (x2 : (⟨S262144, .i32⟩ : BufTy).Contents (Elt Ideal)) (x3 : (⟨S262144x3, .f32⟩ : BufTy).Contents (Elt Ideal)) (x6 : (⟨S262144x6, .f32⟩ : BufTy).Contents (Elt Ideal)) (x7 : (⟨S6x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256, .f32⟩ : BufTy).Contents (Elt Ideal)) (x12 : (⟨S256, .f32⟩ : BufTy).Contents (Elt Ideal)) (x13 : (⟨S256x3, .f32⟩ : BufTy).Contents (Elt Ideal)) (x14 : (⟨S3, .f32⟩ : BufTy).Contents (Elt Ideal)) (x15 : (⟨S256x20, .f32⟩ : BufTy).Contents (Elt Ideal)) (x16 : (⟨S20, .f32⟩ : BufTy).Contents (Elt Ideal))

/-- The arguments the reference finds. -/
def ptsR : Pts where
  x n k := x6 (ix2 n k)
  pos n q := x0 (ix2 n q)
  ctr n q := x3 (ix2 n q)
  seg n := x1 (ix1 n)
  ins n := x2 (ix1 n)
  W k j := x7 (ix2 k j)
  b j := x8 (ix1 j)
  W1 k j := x9 (ix2 k j)
  b1 j := x10 (ix1 j)
  gam j := x11 (ix1 j)
  bet j := x12 (ix1 j)
  W2 j q := x13 (ix2 j q)
  b2 q := x14 (ix1 q)
  Ws j n := x15 (ix2 j n)
  bs n := x16 (ix1 n)

theorem v3_at (n : Fin 262144) (j : Fin 256) : val_main_v3 (F := Ideal) x6 x7 x8 (ix2 n j) = ((ptsR x0 x1 x2 x3 x6 x7 x8 x9 x10 x11 x12 x13 x14 x15 x16)).ft n j := by
  pointwise [val_main_v3, val_main_v2, val_main_v1, val_main_v0]
  rfl
theorem v7_at (n : Fin 262144) (j : Fin 256) : val_main_v7 (F := Ideal) x6 x7 x8 x9 x10 (ix2 n j) = ((ptsR x0 x1 x2 x3 x6 x7 x8 x9 x10 x11 x12 x13 x14 x15 x16)).hr n j := by
  pointwise [val_main_v7, val_main_v6, val_main_v5, val_main_v4]
  simp only [v3_at x0 x1 x2 x3 x6 x7 x8 x9 x10 x11 x12 x13 x14 x15 x16]
  rfl
theorem v10_at (j : Fin 256) : val_main_v10 (F := Ideal) x6 x7 x8 x9 x10 (ix1 j) = ((ptsR x0 x1 x2 x3 x6 x7 x8 x9 x10 x11 x12 x13 x14 x15 x16)).muR j := by
  pointwise [val_main_v10, val_main_v9, val_main_v8, val_main_cst, val_main_cst_0]
  simp only [v7_at x0 x1 x2 x3 x6 x7 x8 x9 x10 x11 x12 x13 x14 x15 x16]
  rfl
theorem count_real : Points.count = ((262144 : ℝ) : EReal) := by
  simp [Points.count, Ideal.ofBits, Ideal.ieee]
  rw [← EReal.coe_mul]
  norm_num
theorem v11_at (j : Fin 256) : val_main_v11 (F := Ideal) x6 x7 x8 x9 x10 (ix1 j) = ((ptsR x0 x1 x2 x3 x6 x7 x8 x9 x10 x11 x12 x13 x14 x15 x16)).varR j := by
  pointwise [val_main_v11, val_main_call0_v12, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_call0_cst_0, val_main_call0_cst_1, val_main_call0_cst_2, val_main_call0_cst_3, val_main_call0_cst_4, val_main_call0_call0_v1, val_main_call0_call0_v0, val_main_c]
  simp only [v7_at x0 x1 x2 x3 x6 x7 x8 x9 x10 x11 x12 x13 x14 x15 x16]
  have e : (Ideal.ofBits FTy.f32 1216348160#32 : EReal) - FloatOps.sitofp (F := Ideal) FTy.f32 0#32 = Points.count := by
    simp [FloatOps.sitofp, Points.count]
  rw [e, if_pos (by rw [count_real]; exact EReal.coe_pos.mpr (by norm_num))]
  rfl
theorem v27_at (n : Fin 262144) (j : Fin 256) : val_main_v27 (F := Ideal) x6 x7 x8 x9 x10 x11 x12 (ix2 n j) = ((ptsR x0 x1 x2 x3 x6 x7 x8 x9 x10 x11 x12 x13 x14 x15 x16)).hR n j := by
  pointwise [val_main_v27, val_main_call1_v0, val_main_call1_cst, val_main_v26, val_main_v25, val_main_v24, val_main_v23, val_main_v22, val_main_v21, val_main_v20, val_main_v19, val_main_v18, val_main_v17, val_main_v16, val_main_v15, val_main_cst_1, val_main_v14, val_main_v13, val_main_v12]
  simp only [v7_at x0 x1 x2 x3 x6 x7 x8 x9 x10 x11 x12 x13 x14 x15 x16, v10_at x0 x1 x2 x3 x6 x7 x8 x9 x10 x11 x12 x13 x14 x15 x16, v11_at x0 x1 x2 x3 x6 x7 x8 x9 x10 x11 x12 x13 x14 x15 x16]
  rfl
theorem v31_at (n : Fin 262144) (q : Fin 3) : val_main_v31 (F := Ideal) x6 x7 x8 x9 x10 x11 x12 x13 x14 (ix2 n q) = head (((ptsR x0 x1 x2 x3 x6 x7 x8 x9 x10 x11 x12 x13 x14 x15 x16)).hR n) ((ptsR x0 x1 x2 x3 x6 x7 x8 x9 x10 x11 x12 x13 x14 x15 x16)).W2 ((ptsR x0 x1 x2 x3 x6 x7 x8 x9 x10 x11 x12 x13 x14 x15 x16)).b2 q := by
  pointwise [val_main_v31, val_main_v30, val_main_v29, val_main_v28]
  simp only [v27_at x0 x1 x2 x3 x6 x7 x8 x9 x10 x11 x12 x13 x14 x15 x16]
  rfl
theorem v35_at (n : Fin 262144) (q : Fin 20) : val_main_v35 (F := Ideal) x6 x7 x8 x15 x16 (ix2 n q) = ((ptsR x0 x1 x2 x3 x6 x7 x8 x9 x10 x11 x12 x13 x14 x15 x16)).lg n q := by
  pointwise [val_main_v35, val_main_v34, val_main_v33, val_main_v32]
  simp only [v3_at x0 x1 x2 x3 x6 x7 x8 x9 x10 x11 x12 x13 x14 x15 x16]
  rfl
theorem flag_one (s : BitVec 32) : (FloatOps.uitofp (F := Ideal) .f32 (IntOp.cmpi CmpIPredicate.ne s 4294967295#32) : EReal) = flag s := by
  unfold flag IntOp.cmpi
  by_cases h : s = 4294967295#32
  · subst h
    rw [if_pos rfl]
    simp [FloatOps.uitofp]
  · rw [if_neg h]
    have e : (s != 4294967295#32) = true := bne_iff_ne.mpr h
    simp [FloatOps.uitofp, e]
theorem v46_at (n : Fin 262144) : val_main_v46 (F := Ideal) x1 (ix1 n) = flag (((ptsR x0 x1 x2 x3 x6 x7 x8 x9 x10 x11 x12 x13 x14 x15 x16)).seg n) := by
  pointwise [val_main_v46, val_main_v37, val_main_v36, val_main_c_2]
  exact flag_one _
theorem v49_at (n : Fin 262144) : val_main_v49 (F := Ideal) x1 (ix1 n) = flag (((ptsR x0 x1 x2 x3 x6 x7 x8 x9 x10 x11 x12 x13 x14 x15 x16)).seg n) := by
  exact v46_at x0 x1 x2 x3 x6 x7 x8 x9 x10 x11 x12 x13 x14 x15 x16 n
theorem v55_at (n : Fin 262144) : val_main_v55 (F := Ideal) x2 (ix1 n) = flag (((ptsR x0 x1 x2 x3 x6 x7 x8 x9 x10 x11 x12 x13 x14 x15 x16)).ins n) := by
  pointwise [val_main_v55, val_main_v54, val_main_v53, val_main_c_8]
  exact flag_one _
theorem tgt_one (s z : BitVec 32) (hz : z = 0#32) : Scalar.select (IntOp.cmpi CmpIPredicate.ne s 4294967295#32) s z = tgt s := by
  subst hz
  unfold tgt IntOp.cmpi Scalar.select
  by_cases h : s = 4294967295#32
  · subst h
    simp
  · rw [if_neg h]
    have e : (s != 4294967295#32) = true := bne_iff_ne.mpr h
    simp [e]
theorem v38_at (n : Fin 262144) : val_main_v38 (F := Ideal) x1 (ix1 n) = tgt (((ptsR x0 x1 x2 x3 x6 x7 x8 x9 x10 x11 x12 x13 x14 x15 x16)).seg n) := by
  pointwise [val_main_v38, val_main_call2_v1, val_main_call2_v0, val_main_c_3, val_main_v37, val_main_v36, val_main_c_2]
  exact tgt_one _ _ rfl
theorem v41_at (n : Fin 262144) : val_main_v41 (F := Ideal) x6 x7 x8 x15 x16 (ix1 n) = lsePlain (((ptsR x0 x1 x2 x3 x6 x7 x8 x9 x10 x11 x12 x13 x14 x15 x16)).lg n) := by
  generalize hR : lsePlain (((ptsR x0 x1 x2 x3 x6 x7 x8 x9 x10 x11 x12 x13 x14 x15 x16)).lg n) = R
  pointwise [val_main_v41, val_main_v40, val_main_v39, val_main_cst_4]
  simp only [v35_at x0 x1 x2 x3 x6 x7 x8 x9 x10 x11 x12 x13 x14 x15 x16]
  rw [← hR, lsePlain]
/-- A class below twenty: its tests and the clamped row it names. -/
theorem below (t : BitVec 32) (ht : t.toNat < 20) : Scalar.select (IntOp.cmpi CmpIPredicate.slt t 0#32) (IntOp.addi t 20#32) t = t
    ∧ IntOp.cmpi CmpIPredicate.sge t 0#32 = 1#1 ∧ IntOp.cmpi CmpIPredicate.sle t 19#32 = 1#1 ∧ min t.toInt.toNat 19 = t.toNat := by
  have h : ∀ k : Fin 20, Scalar.select (IntOp.cmpi CmpIPredicate.slt (BitVec.ofNat 32 k.val) 0#32) (IntOp.addi (BitVec.ofNat 32 k.val) 20#32) (BitVec.ofNat 32 k.val) = BitVec.ofNat 32 k.val
    ∧ IntOp.cmpi CmpIPredicate.sge (BitVec.ofNat 32 k.val) 0#32 = 1#1 ∧ IntOp.cmpi CmpIPredicate.sle (BitVec.ofNat 32 k.val) 19#32 = 1#1 ∧ min (BitVec.ofNat 32 k.val).toInt.toNat 19 = (BitVec.ofNat 32 k.val).toNat := by decide
  have e : BitVec.ofNat 32 t.toNat = t := by simp
  have := h ⟨t.toNat, ht⟩
  simpa only [e] using this
theorem call3_v5_at (n : Fin 262144) (k : Fin 1) (ht : (tgt (((ptsR x0 x1 x2 x3 x6 x7 x8 x9 x10 x11 x12 x13 x14 x15 x16)).seg n)).toNat < 20) : val_main_call3_v5 (F := Ideal) x1 (ix3 n 0 k) = tgt (((ptsR x0 x1 x2 x3 x6 x7 x8 x9 x10 x11 x12 x13 x14 x15 x16)).seg n) := by
  rw [Subsingleton.elim k 0]
  pointwise [val_main_call3_v5, val_main_call3_v4, val_main_call3_v3, val_main_call3_v2, val_main_call3_v1, val_main_call3_v0, val_main_call3_c, val_main_call3_c_0, val_main_v42]
  simp only [v38_at x0 x1 x2 x3 x6 x7 x8 x9 x10 x11 x12 x13 x14 x15 x16]
  exact (below _ ht).1
theorem call3_v12_at (n : Fin 262144) (ht : (tgt (((ptsR x0 x1 x2 x3 x6 x7 x8 x9 x10 x11 x12 x13 x14 x15 x16)).seg n)).toNat < 20) : val_main_call3_v12 (F := Ideal) x1 (ix2 n 0) = 1#1 := by
  pointwise [val_main_call3_v12, val_main_call3_v11, val_main_call3_v10, val_main_call3_v9, val_main_call3_v8, val_main_call3_v7, val_main_call3_v6, val_main_call3_c_1, val_main_call3_c_2, val_main_call3_c_3]
  simp only [fun k => call3_v5_at x0 x1 x2 x3 x6 x7 x8 x9 x10 x11 x12 x13 x14 x15 x16 n k ht, (below _ ht).2.1, (below _ ht).2.2.1]
  rfl
theorem gather_at (x : S262144x20.Idx → EReal) (idx : IVec S262144x1x1 32) (n : Fin 262144) :
    Host.gather gather_S262144x20_S262144x1x1_S262144x1_n_1_0_0_1_2_11 x idx (ix2 n 0) = x (ix2 n ⟨min (idx (ix3 n 0 0)).toInt.toNat 19, by omega⟩) := by
  unfold Host.gather
  congr 1
  funext a
  refine Fin.ext ?_
  match a with
  | ⟨0, _⟩ =>
    show GatherDims.start gather_S262144x20_S262144x1x1_S262144x1_n_1_0_0_1_2_11 _ _ (0 : Fin 2) + GatherDims.batchCoord gather_S262144x20_S262144x1x1_S262144x1_n_1_0_0_1_2_11 _ (0 : Fin 2) + GatherDims.offCoord gather_S262144x20_S262144x1x1_S262144x1_n_1_0_0_1_2_11 _ (0 : Fin 2) = n.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin S262144x20.rank) ∈ gather_S262144x20_S262144x1x1_S262144x1_n_1_0_0_1_2_11.operandBatchingDims from List.mem_singleton.mpr rfl)]
    rw [Nat.add_zero, Nat.zero_add]
    rfl
  | ⟨1, _⟩ =>
    show GatherDims.start gather_S262144x20_S262144x1x1_S262144x1_n_1_0_0_1_2_11 _ _ (1 : Fin 2) + GatherDims.batchCoord gather_S262144x20_S262144x1x1_S262144x1_n_1_0_0_1_2_11 _ (1 : Fin 2) + GatherDims.offCoord gather_S262144x20_S262144x1x1_S262144x1_n_1_0_0_1_2_11 _ (1 : Fin 2) = min _ 19
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin S262144x20.rank) ∈ gather_S262144x20_S262144x1x1_S262144x1_n_1_0_0_1_2_11.startIndexMap from List.mem_singleton.mpr rfl)]
    refine congrArg (fun i => min (idx i).toInt.toNat 19) (funext fun b => Fin.ext ?_)
    match b with
    | ⟨0, _⟩ => rfl
    | ⟨1, _⟩ => rfl
    | ⟨2, _⟩ => rfl
theorem call3_v13_at (n : Fin 262144) (ht : (tgt (((ptsR x0 x1 x2 x3 x6 x7 x8 x9 x10 x11 x12 x13 x14 x15 x16)).seg n)).toNat < 20) : val_main_call3_v13 (F := Ideal) x1 x6 x7 x8 x15 x16 (ix2 n 0) = ((ptsR x0 x1 x2 x3 x6 x7 x8 x9 x10 x11 x12 x13 x14 x15 x16)).lg n ⟨(tgt (((ptsR x0 x1 x2 x3 x6 x7 x8 x9 x10 x11 x12 x13 x14 x15 x16)).seg n)).toNat, ht⟩ := by
  unfold val_main_call3_v13
  rw [gather_at, v35_at x0 x1 x2 x3 x6 x7 x8 x9 x10 x11 x12 x13 x14 x15 x16]
  refine congrArg _ (Fin.ext ?_)
  show min (val_main_call3_v5 (F := Ideal) x1 (ix3 n 0 0)).toInt.toNat 19 = _
  rw [call3_v5_at x0 x1 x2 x3 x6 x7 x8 x9 x10 x11 x12 x13 x14 x15 x16 n 0 ht]
  exact (below _ ht).2.2.2
/-- The sum that picks out a class has the one term. -/
theorem pick_at (l : Fin 20 → EReal) (s : BitVec 32) (ht : (tgt s).toNat < 20) : pick l s = l ⟨(tgt s).toNat, ht⟩ := by
  unfold pick
  rw [Finset.sum_eq_single (⟨(tgt s).toNat, ht⟩ : Fin 20)]
  · rw [if_pos (by simp)]
  · intro b _ hb
    rw [if_neg]
    intro h
    refine hb (Fin.ext ?_)
    show b.val = (tgt s).toNat
    rw [← h, BitVec.toNat_ofNat]
    omega
  · intro h; exact absurd (Finset.mem_univ _) h
theorem v44_at (n : Fin 262144) (ht : (tgt (((ptsR x0 x1 x2 x3 x6 x7 x8 x9 x10 x11 x12 x13 x14 x15 x16)).seg n)).toNat < 20) : val_main_v44 (F := Ideal) x1 x6 x7 x8 x15 x16 (ix1 n) = pick (((ptsR x0 x1 x2 x3 x6 x7 x8 x9 x10 x11 x12 x13 x14 x15 x16)).lg n) (((ptsR x0 x1 x2 x3 x6 x7 x8 x9 x10 x11 x12 x13 x14 x15 x16)).seg n) := by
  pointwise [val_main_v44, val_main_v43, val_main_call3_v14, val_main_call3_cst]
  rw [call3_v12_at x0 x1 x2 x3 x6 x7 x8 x9 x10 x11 x12 x13 x14 x15 x16 n ht, call3_v13_at x0 x1 x2 x3 x6 x7 x8 x9 x10 x11 x12 x13 x14 x15 x16 n ht, pick_at _ _ ht]
  rfl
theorem v47_at (n : Fin 262144) (ht : (tgt (((ptsR x0 x1 x2 x3 x6 x7 x8 x9 x10 x11 x12 x13 x14 x15 x16)).seg n)).toNat < 20) : val_main_v47 (F := Ideal) x1 x6 x7 x8 x15 x16 (ix1 n) = (lsePlain (((ptsR x0 x1 x2 x3 x6 x7 x8 x9 x10 x11 x12 x13 x14 x15 x16)).lg n) - pick (((ptsR x0 x1 x2 x3 x6 x7 x8 x9 x10 x11 x12 x13 x14 x15 x16)).lg n) (((ptsR x0 x1 x2 x3 x6 x7 x8 x9 x10 x11 x12 x13 x14 x15 x16)).seg n)) * flag (((ptsR x0 x1 x2 x3 x6 x7 x8 x9 x10 x11 x12 x13 x14 x15 x16)).seg n) := by
  rw [val_main_v47_apply, val_main_v45_apply, v41_at x0 x1 x2 x3 x6 x7 x8 x9 x10 x11 x12 x13 x14 x15 x16, v44_at x0 x1 x2 x3 x6 x7 x8 x9 x10 x11 x12 x13 x14 x15 x16 n ht, v46_at x0 x1 x2 x3 x6 x7 x8 x9 x10 x11 x12 x13 x14 x15 x16]
  exact congrArg₂ (· * ·) rfl rfl
theorem v48_at (i : S_.Idx) : val_main_v48 (F := Ideal) x1 x6 x7 x8 x15 x16 i = ∑ n : Fin 262144, val_main_v47 (F := Ideal) x1 x6 x7 x8 x15 x16 (ix1 n) := by
  pointwise [val_main_v48, val_main_cst_5]
theorem v50_at (i : S_.Idx) : val_main_v50 (F := Ideal) x1 i = ∑ n : Fin 262144, val_main_v49 (F := Ideal) x1 (ix1 n) := by
  pointwise [val_main_v50, val_main_cst_6]
theorem cst_7_at (i : S_.Idx) : val_main_cst_7 (F := Ideal)  i = (1 : EReal) := by
  pointwise [val_main_cst_7]
theorem v52_at (ht : ∀ n, (tgt (((ptsR x0 x1 x2 x3 x6 x7 x8 x9 x10 x11 x12 x13 x14 x15 x16)).seg n)).toNat < 20) (i : S_.Idx) : val_main_v52 (F := Ideal) x1 x6 x7 x8 x15 x16 i = ((ptsR x0 x1 x2 x3 x6 x7 x8 x9 x10 x11 x12 x13 x14 x15 x16)).segOf lsePlain := by
  have e1 := (v48_at x1 x6 x7 x8 x15 x16 i).trans (Finset.sum_congr rfl fun n _ => v47_at x0 x1 x2 x3 x6 x7 x8 x9 x10 x11 x12 x13 x14 x15 x16 n (ht n))
  have e2 := (v50_at x1 i).trans (Finset.sum_congr rfl fun n _ => v49_at x0 x1 x2 x3 x6 x7 x8 x9 x10 x11 x12 x13 x14 x15 x16 n)
  rw [val_main_v52_apply, val_main_v51_apply, e1, e2, cst_7_at i]
  unfold Pts.segOf segLoss
  exact congrArg₂ Ideal.div rfl (congrArg₂ max rfl rfl)
theorem v56_at (n : Fin 262144) (q : Fin 3) : val_main_v56 (F := Ideal) x0 x3 (ix2 n q) = ((ptsR x0 x1 x2 x3 x6 x7 x8 x9 x10 x11 x12 x13 x14 x15 x16)).tru n q := by
  pointwise [val_main_v56]
  rfl
theorem v59_at (n : Fin 262144) : val_main_v59 (F := Ideal) x0 x3 x6 x7 x8 x9 x10 x11 x12 x13 x14 (ix1 n) = dist (head (((ptsR x0 x1 x2 x3 x6 x7 x8 x9 x10 x11 x12 x13 x14 x15 x16)).hR n) ((ptsR x0 x1 x2 x3 x6 x7 x8 x9 x10 x11 x12 x13 x14 x15 x16)).W2 ((ptsR x0 x1 x2 x3 x6 x7 x8 x9 x10 x11 x12 x13 x14 x15 x16)).b2) (((ptsR x0 x1 x2 x3 x6 x7 x8 x9 x10 x11 x12 x13 x14 x15 x16)).tru n) := by
  pointwise [val_main_v59, val_main_v58, val_main_v57, val_main_cst_9]
  simp only [v31_at x0 x1 x2 x3 x6 x7 x8 x9 x10 x11 x12 x13 x14 x15 x16, v56_at x0 x1 x2 x3 x6 x7 x8 x9 x10 x11 x12 x13 x14 x15 x16]
  rfl
theorem v77_at (n : Fin 262144) : val_main_v77 (F := Ideal) x0 x3 x6 x7 x8 x9 x10 x11 x12 x13 x14 (ix1 n) = cosv (head (((ptsR x0 x1 x2 x3 x6 x7 x8 x9 x10 x11 x12 x13 x14 x15 x16)).hR n) ((ptsR x0 x1 x2 x3 x6 x7 x8 x9 x10 x11 x12 x13 x14 x15 x16)).W2 ((ptsR x0 x1 x2 x3 x6 x7 x8 x9 x10 x11 x12 x13 x14 x15 x16)).b2) (((ptsR x0 x1 x2 x3 x6 x7 x8 x9 x10 x11 x12 x13 x14 x15 x16)).tru n) := by
  generalize hR : cosv (head (((ptsR x0 x1 x2 x3 x6 x7 x8 x9 x10 x11 x12 x13 x14 x15 x16)).hR n) ((ptsR x0 x1 x2 x3 x6 x7 x8 x9 x10 x11 x12 x13 x14 x15 x16)).W2 ((ptsR x0 x1 x2 x3 x6 x7 x8 x9 x10 x11 x12 x13 x14 x15 x16)).b2) (((ptsR x0 x1 x2 x3 x6 x7 x8 x9 x10 x11 x12 x13 x14 x15 x16)).tru n) = R
  pointwise [val_main_v77, val_main_v76, val_main_v75, val_main_v74, val_main_v73, val_main_v72, val_main_v71, val_main_v70, val_main_v69, val_main_v68, val_main_v67, val_main_v66, val_main_v65, val_main_cst_13, val_main_cst_14, val_main_cst_15, val_main_call4_v0, val_main_call4_v1, val_main_call4_v2, val_main_call4_cst, val_main_call5_v0, val_main_call5_v1, val_main_call5_v2, val_main_call5_cst]
  simp only [v31_at x0 x1 x2 x3 x6 x7 x8 x9 x10 x11 x12 x13 x14 x15 x16, v56_at x0 x1 x2 x3 x6 x7 x8 x9 x10 x11 x12 x13 x14 x15 x16]
  rw [← hR]
  unfold cosv len eps8
  rfl

theorem v60_at (n : Fin 262144) : val_main_v60 (F := Ideal) x0 x2 x3 x6 x7 x8 x9 x10 x11 x12 x13 x14 (ix1 n) = dist (head (((ptsR x0 x1 x2 x3 x6 x7 x8 x9 x10 x11 x12 x13 x14 x15 x16)).hR n) ((ptsR x0 x1 x2 x3 x6 x7 x8 x9 x10 x11 x12 x13 x14 x15 x16)).W2 ((ptsR x0 x1 x2 x3 x6 x7 x8 x9 x10 x11 x12 x13 x14 x15 x16)).b2) (((ptsR x0 x1 x2 x3 x6 x7 x8 x9 x10 x11 x12 x13 x14 x15 x16)).tru n) * flag (((ptsR x0 x1 x2 x3 x6 x7 x8 x9 x10 x11 x12 x13 x14 x15 x16)).ins n) := by
  rw [val_main_v60_apply, v59_at x0 x1 x2 x3 x6 x7 x8 x9 x10 x11 x12 x13 x14 x15 x16, v55_at x0 x1 x2 x3 x6 x7 x8 x9 x10 x11 x12 x13 x14 x15 x16]
  exact congrArg₂ (· * ·) rfl rfl
theorem v61_at (i : S_.Idx) : val_main_v61 (F := Ideal) x0 x2 x3 x6 x7 x8 x9 x10 x11 x12 x13 x14 i = ∑ n : Fin 262144, val_main_v60 (F := Ideal) x0 x2 x3 x6 x7 x8 x9 x10 x11 x12 x13 x14 (ix1 n) := by
  pointwise [val_main_v61, val_main_cst_10]
theorem v62_at (i : S_.Idx) : val_main_v62 (F := Ideal) x2 i = ∑ n : Fin 262144, val_main_v55 (F := Ideal) x2 (ix1 n) := by
  pointwise [val_main_v62, val_main_cst_11]
theorem v64_at (i : S_.Idx) : val_main_v64 (F := Ideal) x0 x2 x3 x6 x7 x8 x9 x10 x11 x12 x13 x14 i = ((ptsR x0 x1 x2 x3 x6 x7 x8 x9 x10 x11 x12 x13 x14 x15 x16)).l1Of ((ptsR x0 x1 x2 x3 x6 x7 x8 x9 x10 x11 x12 x13 x14 x15 x16)).hR := by
  have e1 := (v61_at x0 x2 x3 x6 x7 x8 x9 x10 x11 x12 x13 x14 i).trans (Finset.sum_congr rfl fun n _ => v60_at x0 x1 x2 x3 x6 x7 x8 x9 x10 x11 x12 x13 x14 x15 x16 n)
  have e2 := (v62_at x2 i).trans (Finset.sum_congr rfl fun n _ => v55_at x0 x1 x2 x3 x6 x7 x8 x9 x10 x11 x12 x13 x14 x15 x16 n)
  rw [val_main_v64_apply, val_main_v63_apply, e1, e2, val_main_cst_12_apply]
  unfold Pts.l1Of maskMean eps8
  exact congrArg₂ Ideal.div rfl (congrArg₂ (· + ·) rfl rfl)
theorem v78_at (n : Fin 262144) : val_main_v78 (F := Ideal) x0 x2 x3 x6 x7 x8 x9 x10 x11 x12 x13 x14 (ix1 n) = cosv (head (((ptsR x0 x1 x2 x3 x6 x7 x8 x9 x10 x11 x12 x13 x14 x15 x16)).hR n) ((ptsR x0 x1 x2 x3 x6 x7 x8 x9 x10 x11 x12 x13 x14 x15 x16)).W2 ((ptsR x0 x1 x2 x3 x6 x7 x8 x9 x10 x11 x12 x13 x14 x15 x16)).b2) (((ptsR x0 x1 x2 x3 x6 x7 x8 x9 x10 x11 x12 x13 x14 x15 x16)).tru n) * flag (((ptsR x0 x1 x2 x3 x6 x7 x8 x9 x10 x11 x12 x13 x14 x15 x16)).ins n) := by
  rw [val_main_v78_apply, v77_at x0 x1 x2 x3 x6 x7 x8 x9 x10 x11 x12 x13 x14 x15 x16, v55_at x0 x1 x2 x3 x6 x7 x8 x9 x10 x11 x12 x13 x14 x15 x16]
  exact congrArg₂ (· * ·) rfl rfl
theorem v79_at (i : S_.Idx) : val_main_v79 (F := Ideal) x0 x2 x3 x6 x7 x8 x9 x10 x11 x12 x13 x14 i = ∑ n : Fin 262144, val_main_v78 (F := Ideal) x0 x2 x3 x6 x7 x8 x9 x10 x11 x12 x13 x14 (ix1 n) := by
  pointwise [val_main_v79, val_main_cst_16]
theorem v80_at (i : S_.Idx) : val_main_v80 (F := Ideal) x2 i = ∑ n : Fin 262144, val_main_v55 (F := Ideal) x2 (ix1 n) := by
  pointwise [val_main_v80, val_main_cst_17]
theorem v82_at (i : S_.Idx) : val_main_v82 (F := Ideal) x0 x2 x3 x6 x7 x8 x9 x10 x11 x12 x13 x14 i = ((ptsR x0 x1 x2 x3 x6 x7 x8 x9 x10 x11 x12 x13 x14 x15 x16)).cosOf ((ptsR x0 x1 x2 x3 x6 x7 x8 x9 x10 x11 x12 x13 x14 x15 x16)).hR := by
  have e1 := (v79_at x0 x2 x3 x6 x7 x8 x9 x10 x11 x12 x13 x14 i).trans (Finset.sum_congr rfl fun n _ => v78_at x0 x1 x2 x3 x6 x7 x8 x9 x10 x11 x12 x13 x14 x15 x16 n)
  have e2 := (v80_at x2 i).trans (Finset.sum_congr rfl fun n _ => v55_at x0 x1 x2 x3 x6 x7 x8 x9 x10 x11 x12 x13 x14 x15 x16 n)
  rw [val_main_v82_apply, val_main_v81_apply, e1, e2, val_main_cst_18_apply]
  unfold Pts.cosOf maskMean eps8
  exact congrArg₂ Ideal.div rfl (congrArg₂ (· + ·) rfl rfl)
theorem v84_at (ht : ∀ n, (tgt (((ptsR x0 x1 x2 x3 x6 x7 x8 x9 x10 x11 x12 x13 x14 x15 x16)).seg n)).toNat < 20) (i : S_.Idx) : val_main_v84 (F := Ideal) x0 x1 x2 x3 x6 x7 x8 x9 x10 x11 x12 x13 x14 x15 x16 i = ((ptsR x0 x1 x2 x3 x6 x7 x8 x9 x10 x11 x12 x13 x14 x15 x16)).segOf lsePlain + ((ptsR x0 x1 x2 x3 x6 x7 x8 x9 x10 x11 x12 x13 x14 x15 x16)).l1Of ((ptsR x0 x1 x2 x3 x6 x7 x8 x9 x10 x11 x12 x13 x14 x15 x16)).hR + ((ptsR x0 x1 x2 x3 x6 x7 x8 x9 x10 x11 x12 x13 x14 x15 x16)).cosOf ((ptsR x0 x1 x2 x3 x6 x7 x8 x9 x10 x11 x12 x13 x14 x15 x16)).hR := by
  rw [val_main_v84_apply, val_main_v83_apply, v52_at x0 x1 x2 x3 x6 x7 x8 x9 x10 x11 x12 x13 x14 x15 x16 ht, v64_at x0 x1 x2 x3 x6 x7 x8 x9 x10 x11 x12 x13 x14 x15 x16, v82_at x0 x1 x2 x3 x6 x7 x8 x9 x10 x11 x12 x13 x14 x15 x16]
  exact congrArg₂ (· + ·) (congrArg₂ (· + ·) rfl rfl) rfl

end Cert.ReferenceIdeal.Val

end
-- ==== Proof.RefResult.lean ====
module

public import proofs.«01_k».proof.Proof.Gen.ReferenceIdeal.Run
public import proofs.«01_k».proof.Proof.Gen.ReferenceIdeal.Read
public import proofs.«01_k».proof.Proof.RefValue

/-! The reference's four results in the arguments' terms, at the arguments some memory holds. -/

@[expose] public section

noncomputable section

namespace Cert.ReferenceIdeal.Val

open Cert.ReferenceIdeal Cert.ReferenceIdeal.Read Cert.KernelIdeal.Val Cert.Points
open Idealize.ShloMosaic Idealize.ShloMosaic.TcCoe

/-- Equal arguments are equal points. -/
theorem ptsR_congr {x0 y0 : (⟨S262144x3, .f32⟩ : BufTy).Contents (Elt Ideal)} {x1 y1 : (⟨S262144, .i32⟩ : BufTy).Contents (Elt Ideal)} {x2 y2 : (⟨S262144, .i32⟩ : BufTy).Contents (Elt Ideal)} {x3 y3 : (⟨S262144x3, .f32⟩ : BufTy).Contents (Elt Ideal)} {x6 y6 : (⟨S262144x6, .f32⟩ : BufTy).Contents (Elt Ideal)} {x7 y7 : (⟨S6x256, .f32⟩ : BufTy).Contents (Elt Ideal)} {x8 y8 : (⟨S256, .f32⟩ : BufTy).Contents (Elt Ideal)} {x9 y9 : (⟨S256x256, .f32⟩ : BufTy).Contents (Elt Ideal)} {x10 y10 : (⟨S256, .f32⟩ : BufTy).Contents (Elt Ideal)} {x11 y11 : (⟨S256, .f32⟩ : BufTy).Contents (Elt Ideal)} {x12 y12 : (⟨S256, .f32⟩ : BufTy).Contents (Elt Ideal)} {x13 y13 : (⟨S256x3, .f32⟩ : BufTy).Contents (Elt Ideal)} {x14 y14 : (⟨S3, .f32⟩ : BufTy).Contents (Elt Ideal)} {x15 y15 : (⟨S256x20, .f32⟩ : BufTy).Contents (Elt Ideal)} {x16 y16 : (⟨S20, .f32⟩ : BufTy).Contents (Elt Ideal)}
    (h0 : x0 = y0) (h1 : x1 = y1) (h2 : x2 = y2) (h3 : x3 = y3) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) :
    ptsR x0 x1 x2 x3 x6 x7 x8 x9 x10 x11 x12 x13 x14 x15 x16 = ptsR y0 y1 y2 y3 y6 y7 y8 y9 y10 y11 y12 y13 y14 y15 y16 := by
  subst h0 h1 h2 h3 h6 h7 h8 h9 h10 h11 h12 h13 h14 h15 h16
  rfl

variable (m : (ℓ : Loc nD τ sig) → Buf (Elt Ideal) ℓ) (c : Dev nD)

/-- The points a memory's arguments hold. -/
def ptsM : Pts := ptsR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

theorem res_v84 (h : ∀ n, (tgt ((ptsM m c).seg n)).toNat < 20) : Value.res_main_v84 m c = (fun _ => (ptsM m c).segOf lsePlain + (ptsM m c).l1Of (ptsM m c).hR + (ptsM m c).cosOf (ptsM m c).hR : S_.Idx → EReal) :=
  (val_main_v84_eq m c).trans (funext fun i => v84_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) h i)
theorem res_v52 (h : ∀ n, (tgt ((ptsM m c).seg n)).toNat < 20) : Value.res_main_v52 m c = (fun _ => (ptsM m c).segOf lsePlain : S_.Idx → EReal) :=
  (val_main_v52_eq m c).trans (funext fun i => v52_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) h i)
theorem res_v64 : Value.res_main_v64 m c = (fun _ => (ptsM m c).l1Of (ptsM m c).hR : S_.Idx → EReal) :=
  (val_main_v64_eq m c).trans (funext fun i => v64_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) i)
theorem res_v82 : Value.res_main_v82 m c = (fun _ => (ptsM m c).cosOf (ptsM m c).hR : S_.Idx → EReal) :=
  (val_main_v82_eq m c).trans (funext fun i => v82_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) i)

end Cert.ReferenceIdeal.Val

end
-- ==== Proof.Precond.lean ====
module

public import proofs.«01_k».proof.Defs
public import proofs.«01_k».proof.Proof.Gen.Pre_finite_and_labelled
public import proofs.«01_k».proof.Proof.Algebra
public import proofs.«01_k».proof.Proof.KernelResult

/-! What the precondition says of the arguments: the features and the weights that the two sides
rearrange are numbers, and every label, with the absent ones read as class zero, is below twenty. -/

@[expose] public section

noncomputable section

namespace Cert.KernelIdeal.Val

open Cert.KernelIdeal Cert.KernelIdeal.Gen Cert.Points
open Idealize.ShloMosaic Idealize.ShloMosaic.TcCoe Idealize.ShloMosaic.StableHlo

/-- Below infinity in absolute value is a number. -/
theorem real_of_lt (x : EReal) (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

/-- A label between minus one and nineteen. -/
theorem label_of (s : BitVec 32) (h : IntOp.andi (IntOp.cmpi .sge s 4294967295#32) (IntOp.cmpi .slt s 20#32) = 1#1) : (tgt s).toNat < 20 := by
  have both : ∀ p q : Bool, IntOp.andi (BitVec.ofBool p) (BitVec.ofBool q) = 1#1 → p = true ∧ q = true := by decide
  have e := both _ _ h
  simp only [BitVec.sle_eq_decide, BitVec.slt_eq_decide, decide_eq_true_eq, BitVec.toInt_eq_toNat_cond, BitVec.toNat_ofNat, Nat.reducePow, Nat.reduceMod] at e
  unfold tgt
  split
  · simp
  · rename_i hs
    have hn : s.toNat ≠ 4294967295 := fun he => hs (BitVec.eq_of_toNat_eq he)
    omega

variable (m : (ℓ : Loc nD τ sig) → Buf (Elt Ideal) ℓ) (c : Dev nD)

theorem finite_of_pre (h : Cert.Pre_KernelIdeal_finite_and_labelled m) : (ptsK m c).Finite := by
  obtain ⟨h0, h1, h2, h3, h4, h5, h6, _⟩ := h c
  exact {
    x := fun n k => real_of_lt _ (congrFun h0 (ix2 n k))
    W := fun k j => real_of_lt _ (congrFun h1 (ix2 k j))
    b := fun j => real_of_lt _ (congrFun h2 (ix1 j))
    W1 := fun k j => real_of_lt _ (congrFun h3 (ix2 k j))
    gam := fun j => real_of_lt _ (congrFun h4 (ix1 j))
    Ws := fun j n => real_of_lt _ (congrFun h5 (ix2 j n))
    bs := fun n => real_of_lt _ (congrFun h6 (ix1 n)) }

theorem labelled_of_pre (h : Cert.Pre_KernelIdeal_finite_and_labelled m) : Labelled m c := fun n =>
  label_of _ (congrFun (h c).2.2.2.2.2.2.2 (ix1 n))

end Cert.KernelIdeal.Val

end
-- ==== Proof.lean ====
/- The proof of the certificate's claims: the three frames, the kernel's idealization, and the
   equality of the kernel's four results and the reference's over finite, labelled arguments. -/
module

public import proofs.«01_k».proof.Defs
public import proofs.«01_k».proof.Proof.KRun
public import proofs.«01_k».proof.Proof.Run
public import proofs.«01_k».proof.Proof.Gen.ReferenceIdeal.Run
public import proofs.«01_k».proof.Proof.Gen.Pre_finite_and_labelled
public import proofs.«01_k».proof.Proof.Algebra
public import proofs.«01_k».proof.Proof.KernelResult
public import proofs.«01_k».proof.Proof.RefResult
public import proofs.«01_k».proof.Proof.Precond
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame. -/
theorem frame_p : Cert.quiescent_Kernel := fun m ρ _ => Cert.Kernel.Run.frame m ρ
/-- The ideal kernel's frame. -/
theorem frame_pi : Cert.quiescent_KernelIdeal := fun m ρ _ => Cert.KernelIdeal.Run.frame m ρ
theorem frame_pi_pre : Cert.quiescent_KernelIdeal_pre_finite_and_labelled := fun m ρ _ => Cert.KernelIdeal.Run.frame m ρ
/-- The reference's frame: the run's argument part, and it declares no semaphore. -/
theorem frame_ri : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)
theorem frame_ri_pre : Cert.quiescent_ReferenceIdeal_pre_finite_and_labelled := fun m ρ _ => frame_ri m ρ trivial

open Cert.Points Cert.KernelIdeal Cert.KernelIdeal.Val Cert.KernelIdeal.Run in
/-- The two runs' results: the reference's formulas at the kernel's arguments. -/
theorem results : Cert.algebraic_KernelIdeal_ReferenceIdeal_pre_finite_and_labelled := by
  intro m g m' g' hpre a
  have hF := fun c => finite_of_pre m c hpre
  have hL := fun c => labelled_of_pre m c hpre
  have hP : ∀ c, Cert.ReferenceIdeal.Val.ptsM m' c = ptsK m c := fun c =>
    Cert.ReferenceIdeal.Val.ptsR_congr (a c).1 (a c).2.1 (a c).2.2.1 (a c).2.2.2.1 (a c).2.2.2.2.2.2.1 (a c).2.2.2.2.2.2.2.1 (a c).2.2.2.2.2.2.2.2.1 (a c).2.2.2.2.2.2.2.2.2.1 (a c).2.2.2.2.2.2.2.2.2.2.1 (a c).2.2.2.2.2.2.2.2.2.2.2.1 (a c).2.2.2.2.2.2.2.2.2.2.2.2.1 (a c).2.2.2.2.2.2.2.2.2.2.2.2.2.1 (a c).2.2.2.2.2.2.2.2.2.2.2.2.2.2.1 (a c).2.2.2.2.2.2.2.2.2.2.2.2.2.2.2.1 (a c).2.2.2.2.2.2.2.2.2.2.2.2.2.2.2.2
  refine ⟨fun c => (fun _ => (ptsK m c).segOf lsePlain + (ptsK m c).l1Of (ptsK m c).hR + (ptsK m c).cosOf (ptsK m c).hR : S_.Idx → EReal),
    fun c => (fun _ => (ptsK m c).segOf lsePlain : S_.Idx → EReal), fun c => (fun _ => (ptsK m c).l1Of (ptsK m c).hR : S_.Idx → EReal),
    fun c => (fun _ => (ptsK m c).cosOf (ptsK m c).hR : S_.Idx → EReal),
    (θ_run Cert.KernelIdeal.defs _ _).mono (fun r h c => ⟨?_, ?_, ?_, ?_, run_arg m g (h.1 c) main_arg0 (by decide) (by decide), run_arg m g (h.1 c) main_arg1 (by decide) (by decide), run_arg m g (h.1 c) main_arg2 (by decide) (by decide), run_arg m g (h.1 c) main_arg3 (by decide) (by decide), run_arg m g (h.1 c) main_arg4 (by decide) (by decide), run_arg m g (h.1 c) main_arg5 (by decide) (by decide), run_arg m g (h.1 c) main_arg6 (by decide) (by decide), run_arg m g (h.1 c) main_arg7 (by decide) (by decide), run_arg m g (h.1 c) main_arg8 (by decide) (by decide), run_arg m g (h.1 c) main_arg9 (by decide) (by decide), run_arg m g (h.1 c) main_arg10 (by decide) (by decide), run_arg m g (h.1 c) main_arg11 (by decide) (by decide), run_arg m g (h.1 c) main_arg12 (by decide) (by decide), run_arg m g (h.1 c) main_arg13 (by decide) (by decide), run_arg m g (h.1 c) main_arg14 (by decide) (by decide), run_arg m g (h.1 c) main_arg15 (by decide) (by decide), run_arg m g (h.1 c) main_arg16 (by decide) (by decide)⟩) (run m g),
    (θ_run Cert.ReferenceIdeal.defs _ _).mono (fun r h c => ⟨(h c).1.trans ?_, (h c).2.1.trans ?_, (h c).2.2.1.trans ?_, (h c).2.2.2.1.trans ?_, (h c).2.2.2.2⟩)
      (Cert.ReferenceIdeal.Value.run (F := Ideal) m' g')⟩
  · refine ((run_at m g (h.1 c) main_v27 (by decide)).trans (res27 m g c (hL c))).trans ?_
    rw [seg_eq _ (hF c), hidden_eq _ (hF c)]
  · refine ((run_at m g (h.1 c) main_v29 (by decide)).trans (res29 m g c (hL c))).trans ?_
    rw [seg_eq _ (hF c)]
  · refine ((run_at m g (h.1 c) main_v31 (by decide)).trans (res31 m g c)).trans ?_
    rw [hidden_eq _ (hF c)]
  · refine ((run_at m g (h.1 c) main_v33 (by decide)).trans (res33 m g c)).trans ?_
    rw [hidden_eq _ (hF c)]
  · refine (Cert.ReferenceIdeal.Val.res_v84 m' c (by rw [hP]; exact hL c)).trans ?_
    rw [hP]
  · refine (Cert.ReferenceIdeal.Val.res_v52 m' c (by rw [hP]; exact hL c)).trans ?_
    rw [hP]
  · refine (Cert.ReferenceIdeal.Val.res_v64 m' c).trans ?_
    rw [hP]
  · refine (Cert.ReferenceIdeal.Val.res_v82 m' c).trans ?_
    rw [hP]

theorem claim : Cert.Claim := ⟨Cert.Kernel.Gen.facts, Cert.KernelIdeal.Gen.facts, Cert.ReferenceIdeal.Gen.facts, Cert.Pre_finite_and_labelled.Gen.facts,
  frame_p, frame_pi, frame_pi_pre, frame_ri, frame_ri_pre, trivial, results⟩

end Cert.Proof

end
